-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_finite_and_hulls_proper [hPre_boxes_finite_and_hulls_proper : Cert.Pre_boxes_finite_and_hulls_proper.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_finite_and_hulls_proper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_finite_and_hulls_proper [hPre_boxes_finite_and_hulls_proper : Cert.Pre_boxes_finite_and_hulls_proper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_finite_and_hulls_proper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_boxes_finite_and_hulls_proper [hKernelIdeal : Cert.KernelIdeal.Facts] [hPre_boxes_finite_and_hulls_proper : Cert.Pre_boxes_finite_and_hulls_proper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_finite_and_hulls_proper m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_boxes_finite_and_hulls_proper [hReferenceIdeal : Cert.ReferenceIdeal.Facts] [hPre_boxes_finite_and_hulls_proper : Cert.Pre_boxes_finite_and_hulls_proper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_finite_and_hulls_proper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_boxes_finite_and_hulls_proper [hKernelIdeal : Cert.KernelIdeal.Facts] [hReferenceIdeal : Cert.ReferenceIdeal.Facts] [hPre_boxes_finite_and_hulls_proper : Cert.Pre_boxes_finite_and_hulls_proper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_finite_and_hulls_proper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v16)) (v4 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v16) = v3 c
          ∧ r.2.mem ((c.tc : Thread Cert.KernelIdeal.nD Cert.KernelIdeal.τ).loc Cert.KernelIdeal.main_v23) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_boxes_finite_and_hulls_proper : Cert.Pre_boxes_finite_and_hulls_proper.Facts),
    quiescent_Kernel (hKernel := hKernel)
    ∧ quiescent_KernelIdeal (hKernelIdeal := hKernelIdeal)
    ∧ quiescent_KernelIdeal_pre_boxes_finite_and_hulls_proper (hKernelIdeal := hKernelIdeal) (hPre_boxes_finite_and_hulls_proper := hPre_boxes_finite_and_hulls_proper)
    ∧ quiescent_ReferenceIdeal (hReferenceIdeal := hReferenceIdeal)
    ∧ quiescent_ReferenceIdeal_pre_boxes_finite_and_hulls_proper (hReferenceIdeal := hReferenceIdeal) (hPre_boxes_finite_and_hulls_proper := hPre_boxes_finite_and_hulls_proper)
    ∧ preserves_Kernel_KernelIdeal
    ∧ algebraic_KernelIdeal_ReferenceIdeal_pre_boxes_finite_and_hulls_proper (hKernelIdeal := hKernelIdeal) (hReferenceIdeal := hReferenceIdeal) (hPre_boxes_finite_and_hulls_proper := hPre_boxes_finite_and_hulls_proper)
-- ==== Pre_boxes_finite_and_hulls_proper.lean ====
abbrev S16x8400x85 : Shape := ⟨3, ![16, 8400, 85]⟩
abbrev S16x100x85 : Shape := ⟨3, ![16, 100, 85]⟩
abbrev S16 : Shape := ⟨1, ![16]⟩
abbrev S100 : Shape := ⟨1, ![100]⟩
abbrev S1x100 : Shape := ⟨2, ![1, 100]⟩
abbrev S16x1 : Shape := ⟨2, ![16, 1]⟩
abbrev S16x100 : Shape := ⟨2, ![16, 100]⟩
abbrev S16x8400x5 : Shape := ⟨3, ![16, 8400, 5]⟩
abbrev S_ : Shape := ⟨0, ![]⟩
abbrev S16x100x4 : Shape := ⟨3, ![16, 100, 4]⟩
abbrev S16x100x1 : Shape := ⟨3, ![16, 100, 1]⟩
abbrev S16x8400x1 : Shape := ⟨3, ![16, 8400, 1]⟩
abbrev S16x8400 : Shape := ⟨2, ![16, 8400]⟩
abbrev S16x1x100 : Shape := ⟨3, ![16, 1, 100]⟩
abbrev S16x8400x100 : Shape := ⟨3, ![16, 8400, 100]⟩

class Facts : Prop where
  bcast_S100_S1x100_1 : S100.BroadcastsInDim S1x100 (![1] : Fin 1 → Fin S1x100.rank)
  bcast_S16_S16x1_0 : S16.BroadcastsInDim S16x1 (![0] : Fin 1 → Fin S16x1.rank)
  bcast_S1x100_S16x100_0_1 : S1x100.BroadcastsInDim S16x100 (![0, 1] : Fin 2 → Fin S16x100.rank)
  bcast_S16x1_S16x100_0_1 : S16x1.BroadcastsInDim S16x100 (![0, 1] : Fin 2 → Fin S16x100.rank)
  slices_S16x8400x85_S16x8400x5_0_0_0 : S16x8400x85.Slices ![0, 0, 0] S16x8400x5
  bcast_S_S16x8400x5 : S_.BroadcastsInDim S16x8400x5 (![] : Fin 0 → Fin S16x8400x5.rank)
  reducesTo_S16x8400x5_S_d0_1_2 : S16x8400x5.ReducesTo [0, 1, 2] S_
  h_S_ : 0 < S_.numel
  slices_S16x100x85_S16x100x4_0_0_0 : S16x100x85.Slices ![0, 0, 0] S16x100x4
  bcast_S_S16x100x4 : S_.BroadcastsInDim S16x100x4 (![] : Fin 0 → Fin S16x100x4.rank)
  bcast_S16x100_S16x100x1_0_1 : S16x100.BroadcastsInDim S16x100x1 (![0, 1] : Fin 2 → Fin S16x100x1.rank)
  bcast_S16x100x1_S16x100x4_0_1_2 : S16x100x1.BroadcastsInDim S16x100x4 (![0, 1, 2] : Fin 3 → Fin S16x100x4.rank)
  reducesTo_S16x100x4_S_d0_1_2 : S16x100x4.ReducesTo [0, 1, 2] S_
  slices_S16x8400x85_S16x8400x1_0_0_0 : S16x8400x85.Slices ![0, 0, 0] S16x8400x1
  shapeCasts_S16x8400x1_S16x8400 : S16x8400x1.ShapeCasts S16x8400
  bcast_S16x8400_S16x8400x1_0_1 : S16x8400.BroadcastsInDim S16x8400x1 (![0, 1] : Fin 2 → Fin S16x8400x1.rank)
  slices_S16x8400x85_S16x8400x1_0_0_1 : S16x8400x85.Slices ![0, 0, 1] S16x8400x1
  slices_S16x8400x85_S16x8400x1_0_0_2 : S16x8400x85.Slices ![0, 0, 2] S16x8400x1
  slices_S16x8400x85_S16x8400x1_0_0_3 : S16x8400x85.Slices ![0, 0, 3] S16x8400x1
  slices_S16x100x85_S16x100x1_0_0_0 : S16x100x85.Slices ![0, 0, 0] S16x100x1
  shapeCasts_S16x100x1_S16x100 : S16x100x1.ShapeCasts S16x100
  bcast_S16x100_S16x1x100_0_2 : S16x100.BroadcastsInDim S16x1x100 (![0, 2] : Fin 2 → Fin S16x1x100.rank)
  slices_S16x100x85_S16x100x1_0_0_1 : S16x100x85.Slices ![0, 0, 1] S16x100x1
  slices_S16x100x85_S16x100x1_0_0_2 : S16x100x85.Slices ![0, 0, 2] S16x100x1
  slices_S16x100x85_S16x100x1_0_0_3 : S16x100x85.Slices ![0, 0, 3] S16x100x1
  bcast_S16x8400x1_S16x8400x100_0_1_2 : S16x8400x1.BroadcastsInDim S16x8400x100 (![0, 1, 2] : Fin 3 → Fin S16x8400x100.rank)
  bcast_S16x1x100_S16x8400x100_0_1_2 : S16x1x100.BroadcastsInDim S16x8400x100 (![0, 1, 2] : Fin 3 → Fin S16x8400x100.rank)
  bcast_S_S16x8400x100 : S_.BroadcastsInDim S16x8400x100 (![] : Fin 0 → Fin S16x8400x100.rank)
  reducesTo_S16x8400x100_S_d0_1_2 : S16x8400x100.ReducesTo [0, 1, 2] S_

variable [Facts]

def fn_part4 {F : FTy → Type} [FloatOps F] (main_v5 : IVec S16x100 1) (main_v10 : IVec S_ 1) (main_v19 : IVec S_ 1) (main_v72 : FVec F S16x8400x100 .f32) (main_v81 : FVec F S16x8400x100 .f32) (main_v88 : FVec F S16x8400x100 .f32) : IVec S_ 1 :=
  let main_cst_5 : FVec F S_ .f32 := constant S_ .f32 0x00000000#32
  let main_v89 : FVec F S16x8400x100 .f32 := broadcastInDim S16x8400x100 ![] bcast_S_S16x8400x100 main_cst_5
  let main_v90 : FVec F S16x8400x100 .f32 := maximumf main_v88 main_v89
  let main_v91 : FVec F S16x8400x100 .f32 := mulf main_v81 main_v90
  let main_cst_6 : FVec F S_ .f32 := constant S_ .f32 0x00000000#32
  let main_v92 : FVec F S16x8400x100 .f32 := broadcastInDim S16x8400x100 ![] bcast_S_S16x8400x100 main_cst_6
  let main_v93 : IVec S16x8400x100 1 := cmpf .ogt main_v91 main_v92
  let main_cst_7 : FVec F S_ .f32 := constant S_ .f32 0x00000000#32
  let main_v94 : FVec F S16x8400x100 .f32 := broadcastInDim S16x8400x100 ![] bcast_S_S16x8400x100 main_cst_7
  let main_v95 : IVec S16x8400x100 1 := cmpf .oge main_v72 main_v94
  let main_v96 : IVec S16x8400x100 1 := ori main_v93 main_v95
  let main_v97 : IVec S16x1x100 1 := broadcastInDim S16x1x100 ![0, 2] bcast_S16x100_S16x1x100_0_2 main_v5
  let main_v98 : IVec S16x1x100 1 := noti main_v97
  let main_v99 : IVec S16x8400x100 1 := broadcastInDim S16x8400x100 ![0, 1, 2] bcast_S16x1x100_S16x8400x100_0_1_2 main_v98
  let main_v100 : IVec S16x8400x100 1 := ori main_v96 main_v99
  let main_c_8 : IVec S_ 1 := constantI S_ 1 1#1
  let main_v101 : IVec S_ 1 := (fun x v => Host.reduce IntOp.andi x v reducesTo_S16x8400x100_S_d0_1_2 h_S_) main_v100 main_c_8
  let main_v102 : IVec S_ 1 := andi main_v10 main_v19
  let main_v103 : IVec S_ 1 := andi main_v102 main_v101
  main_v103

def fn_part3 {F : FTy → Type} [FloatOps F] (main_v5 : IVec S16x100 1) (main_v10 : IVec S_ 1) (main_v19 : IVec S_ 1) (main_v22 : FVec F S16x8400x1 .f32) (main_v25 : FVec F S16x8400x1 .f32) (main_v28 : FVec F S16x8400x1 .f32) (main_v31 : FVec F S16x8400x1 .f32) (main_v34 : FVec F S16x1x100 .f32) (main_v37 : FVec F S16x1x100 .f32) (main_v40 : FVec F S16x1x100 .f32) (main_v43 : FVec F S16x1x100 .f32) (main_v62 : FVec F S16x8400x100 .f32) (main_v65 : FVec F S16x8400x1 .f32) : IVec S_ 1 :=
  let main_v66 : FVec F S16x1x100 .f32 := subf main_v40 main_v34
  let main_v67 : FVec F S16x1x100 .f32 := subf main_v43 main_v37
  let main_v68 : FVec F S16x1x100 .f32 := mulf main_v66 main_v67
  let main_v69 : FVec F S16x8400x100 .f32 := broadcastInDim S16x8400x100 ![0, 1, 2] bcast_S16x8400x1_S16x8400x100_0_1_2 main_v65
  let main_v70 : FVec F S16x8400x100 .f32 := broadcastInDim S16x8400x100 ![0, 1, 2] bcast_S16x1x100_S16x8400x100_0_1_2 main_v68
  let main_v71 : FVec F S16x8400x100 .f32 := addf main_v69 main_v70
  let main_v72 : FVec F S16x8400x100 .f32 := subf main_v71 main_v62
  let main_v73 : FVec F S16x8400x100 .f32 := broadcastInDim S16x8400x100 ![0, 1, 2] bcast_S16x8400x1_S16x8400x100_0_1_2 main_v28
  let main_v74 : FVec F S16x8400x100 .f32 := broadcastInDim S16x8400x100 ![0, 1, 2] bcast_S16x1x100_S16x8400x100_0_1_2 main_v40
  let main_v75 : FVec F S16x8400x100 .f32 := maximumf main_v73 main_v74
  let main_v76 : FVec F S16x8400x100 .f32 := broadcastInDim S16x8400x100 ![0, 1, 2] bcast_S16x8400x1_S16x8400x100_0_1_2 main_v22
  let main_v77 : FVec F S16x8400x100 .f32 := broadcastInDim S16x8400x100 ![0, 1, 2] bcast_S16x1x100_S16x8400x100_0_1_2 main_v34
  let main_v78 : FVec F S16x8400x100 .f32 := minimumf main_v76 main_v77
  let main_v79 : FVec F S16x8400x100 .f32 := subf main_v75 main_v78
  let main_cst_4 : FVec F S_ .f32 := constant S_ .f32 0x00000000#32
  let main_v80 : FVec F S16x8400x100 .f32 := broadcastInDim S16x8400x100 ![] bcast_S_S16x8400x100 main_cst_4
  let main_v81 : FVec F S16x8400x100 .f32 := maximumf main_v79 main_v80
  let main_v82 : FVec F S16x8400x100 .f32 := broadcastInDim S16x8400x100 ![0, 1, 2] bcast_S16x8400x1_S16x8400x100_0_1_2 main_v31
  let main_v83 : FVec F S16x8400x100 .f32 := broadcastInDim S16x8400x100 ![0, 1, 2] bcast_S16x1x100_S16x8400x100_0_1_2 main_v43
  let main_v84 : FVec F S16x8400x100 .f32 := maximumf main_v82 main_v83
  let main_v85 : FVec F S16x8400x100 .f32 := broadcastInDim S16x8400x100 ![0, 1, 2] bcast_S16x8400x1_S16x8400x100_0_1_2 main_v25
  let main_v86 : FVec F S16x8400x100 .f32 := broadcastInDim S16x8400x100 ![0, 1, 2] bcast_S16x1x100_S16x8400x100_0_1_2 main_v37
  let main_v87 : FVec F S16x8400x100 .f32 := minimumf main_v85 main_v86
  let main_v88 : FVec F S16x8400x100 .f32 := subf main_v84 main_v87
  fn_part4 (F := F) main_v5 main_v10 main_v19 main_v72 main_v81 main_v88

def fn_part2 {F : FTy → Type} [FloatOps F] (main_v5 : IVec S16x100 1) (main_v10 : IVec S_ 1) (main_v19 : IVec S_ 1) (main_v22 : FVec F S16x8400x1 .f32) (main_v25 : FVec F S16x8400x1 .f32) (main_v28 : FVec F S16x8400x1 .f32) (main_v31 : FVec F S16x8400x1 .f32) (main_v34 : FVec F S16x1x100 .f32) (main_v37 : FVec F S16x1x100 .f32) (main_v40 : FVec F S16x1x100 .f32) (main_v43 : FVec F S16x1x100 .f32) : IVec S_ 1 :=
  let main_v44 : FVec F S16x8400x100 .f32 := broadcastInDim S16x8400x100 ![0, 1, 2] bcast_S16x8400x1_S16x8400x100_0_1_2 main_v28
  let main_v45 : FVec F S16x8400x100 .f32 := broadcastInDim S16x8400x100 ![0, 1, 2] bcast_S16x1x100_S16x8400x100_0_1_2 main_v40
  let main_v46 : FVec F S16x8400x100 .f32 := minimumf main_v44 main_v45
  let main_v47 : FVec F S16x8400x100 .f32 := broadcastInDim S16x8400x100 ![0, 1, 2] bcast_S16x8400x1_S16x8400x100_0_1_2 main_v22
  let main_v48 : FVec F S16x8400x100 .f32 := broadcastInDim S16x8400x100 ![0, 1, 2] bcast_S16x1x100_S16x8400x100_0_1_2 main_v34
  let main_v49 : FVec F S16x8400x100 .f32 := maximumf main_v47 main_v48
  let main_v50 : FVec F S16x8400x100 .f32 := subf main_v46 main_v49
  let main_cst_2 : FVec F S_ .f32 := constant S_ .f32 0x00000000#32
  let main_v51 : FVec F S16x8400x100 .f32 := broadcastInDim S16x8400x100 ![] bcast_S_S16x8400x100 main_cst_2
  let main_v52 : FVec F S16x8400x100 .f32 := maximumf main_v50 main_v51
  let main_v53 : FVec F S16x8400x100 .f32 := broadcastInDim S16x8400x100 ![0, 1, 2] bcast_S16x8400x1_S16x8400x100_0_1_2 main_v31
  let main_v54 : FVec F S16x8400x100 .f32 := broadcastInDim S16x8400x100 ![0, 1, 2] bcast_S16x1x100_S16x8400x100_0_1_2 main_v43
  let main_v55 : FVec F S16x8400x100 .f32 := minimumf main_v53 main_v54
  let main_v56 : FVec F S16x8400x100 .f32 := broadcastInDim S16x8400x100 ![0, 1, 2] bcast_S16x8400x1_S16x8400x100_0_1_2 main_v25
  let main_v57 : FVec F S16x8400x100 .f32 := broadcastInDim S16x8400x100 ![0, 1, 2] bcast_S16x1x100_S16x8400x100_0_1_2 main_v37
  let main_v58 : FVec F S16x8400x100 .f32 := maximumf main_v56 main_v57
  let main_v59 : FVec F S16x8400x100 .f32 := subf main_v55 main_v58
  let main_cst_3 : FVec F S_ .f32 := constant S_ .f32 0x00000000#32
  let main_v60 : FVec F S16x8400x100 .f32 := broadcastInDim S16x8400x100 ![] bcast_S_S16x8400x100 main_cst_3
  let main_v61 : FVec F S16x8400x100 .f32 := maximumf main_v59 main_v60
  let main_v62 : FVec F S16x8400x100 .f32 := mulf main_v52 main_v61
  let main_v63 : FVec F S16x8400x1 .f32 := subf main_v28 main_v22
  let main_v64 : FVec F S16x8400x1 .f32 := subf main_v31 main_v25
  let main_v65 : FVec F S16x8400x1 .f32 := mulf main_v63 main_v64
  fn_part3 (F := F) main_v5 main_v10 main_v19 main_v22 main_v25 main_v28 main_v31 main_v34 main_v37 main_v40 main_v43 main_v62 main_v65

def fn_part1 {F : FTy → Type} [FloatOps F] (main_arg0 : FVec F S16x8400x85 .f32) (main_arg1 : FVec F S16x100x85 .f32) (main_v5 : IVec S16x100 1) (main_v10 : IVec S_ 1) (main_v19 : IVec S_ 1) : IVec S_ 1 :=
  let main_v20 : FVec F S16x8400x1 .f32 := (extractStridedSlice S16x8400x1 ![0, 0, 0] · slices_S16x8400x85_S16x8400x1_0_0_0) main_arg0
  let main_v21 : FVec F S16x8400 .f32 := shapeCast S16x8400 main_v20 shapeCasts_S16x8400x1_S16x8400
  let main_v22 : FVec F S16x8400x1 .f32 := broadcastInDim S16x8400x1 ![0, 1] bcast_S16x8400_S16x8400x1_0_1 main_v21
  let main_v23 : FVec F S16x8400x1 .f32 := (extractStridedSlice S16x8400x1 ![0, 0, 1] · slices_S16x8400x85_S16x8400x1_0_0_1) main_arg0
  let main_v24 : FVec F S16x8400 .f32 := shapeCast S16x8400 main_v23 shapeCasts_S16x8400x1_S16x8400
  let main_v25 : FVec F S16x8400x1 .f32 := broadcastInDim S16x8400x1 ![0, 1] bcast_S16x8400_S16x8400x1_0_1 main_v24
  let main_v26 : FVec F S16x8400x1 .f32 := (extractStridedSlice S16x8400x1 ![0, 0, 2] · slices_S16x8400x85_S16x8400x1_0_0_2) main_arg0
  let main_v27 : FVec F S16x8400 .f32 := shapeCast S16x8400 main_v26 shapeCasts_S16x8400x1_S16x8400
  let main_v28 : FVec F S16x8400x1 .f32 := broadcastInDim S16x8400x1 ![0, 1] bcast_S16x8400_S16x8400x1_0_1 main_v27
  let main_v29 : FVec F S16x8400x1 .f32 := (extractStridedSlice S16x8400x1 ![0, 0, 3] · slices_S16x8400x85_S16x8400x1_0_0_3) main_arg0
  let main_v30 : FVec F S16x8400 .f32 := shapeCast S16x8400 main_v29 shapeCasts_S16x8400x1_S16x8400
  let main_v31 : FVec F S16x8400x1 .f32 := broadcastInDim S16x8400x1 ![0, 1] bcast_S16x8400_S16x8400x1_0_1 main_v30
  let main_v32 : FVec F S16x100x1 .f32 := (extractStridedSlice S16x100x1 ![0, 0, 0] · slices_S16x100x85_S16x100x1_0_0_0) main_arg1
  let main_v33 : FVec F S16x100 .f32 := shapeCast S16x100 main_v32 shapeCasts_S16x100x1_S16x100
  let main_v34 : FVec F S16x1x100 .f32 := broadcastInDim S16x1x100 ![0, 2] bcast_S16x100_S16x1x100_0_2 main_v33
  let main_v35 : FVec F S16x100x1 .f32 := (extractStridedSlice S16x100x1 ![0, 0, 1] · slices_S16x100x85_S16x100x1_0_0_1) main_arg1
  let main_v36 : FVec F S16x100 .f32 := shapeCast S16x100 main_v35 shapeCasts_S16x100x1_S16x100
  let main_v37 : FVec F S16x1x100 .f32 := broadcastInDim S16x1x100 ![0, 2] bcast_S16x100_S16x1x100_0_2 main_v36
  let main_v38 : FVec F S16x100x1 .f32 := (extractStridedSlice S16x100x1 ![0, 0, 2] · slices_S16x100x85_S16x100x1_0_0_2) main_arg1
  let main_v39 : FVec F S16x100 .f32 := shapeCast S16x100 main_v38 shapeCasts_S16x100x1_S16x100
  let main_v40 : FVec F S16x1x100 .f32 := broadcastInDim S16x1x100 ![0, 2] bcast_S16x100_S16x1x100_0_2 main_v39
  let main_v41 : FVec F S16x100x1 .f32 := (extractStridedSlice S16x100x1 ![0, 0, 3] · slices_S16x100x85_S16x100x1_0_0_3) main_arg1
  let main_v42 : FVec F S16x100 .f32 := shapeCast S16x100 main_v41 shapeCasts_S16x100x1_S16x100
  let main_v43 : FVec F S16x1x100 .f32 := broadcastInDim S16x1x100 ![0, 2] bcast_S16x100_S16x1x100_0_2 main_v42
  fn_part2 (F := F) main_v5 main_v10 main_v19 main_v22 main_v25 main_v28 main_v31 main_v34 main_v37 main_v40 main_v43

def fn {F : FTy → Type} [FloatOps F] (main_arg0 : FVec F S16x8400x85 .f32) (main_arg1 : FVec F S16x100x85 .f32) (main_arg2 : IVec S16 32) : IVec S_ 1 :=
  let main_v0 : IVec S100 32 := iotaInDim S100 32 0
  let main_v1 : IVec S1x100 32 := broadcastInDim S1x100 ![1] bcast_S100_S1x100_1 main_v0
  let main_v2 : IVec S16x1 32 := broadcastInDim S16x1 ![0] bcast_S16_S16x1_0 main_arg2
  let main_v3 : IVec S16x100 32 := broadcastInDim S16x100 ![0, 1] bcast_S1x100_S16x100_0_1 main_v1
  let main_v4 : IVec S16x100 32 := broadcastInDim S16x100 ![0, 1] bcast_S16x1_S16x100_0_1 main_v2
  let main_v5 : IVec S16x100 1 := cmpi .slt main_v3 main_v4
  let main_v6 : FVec F S16x8400x5 .f32 := (extractStridedSlice S16x8400x5 ![0, 0, 0] · slices_S16x8400x85_S16x8400x5_0_0_0) main_arg0
  let main_v7 : FVec F S16x8400x5 .f32 := Host.absf main_v6
  let main_cst : FVec F S_ .f32 := constant S_ .f32 0x7F800000#32
  let main_v8 : FVec F S16x8400x5 .f32 := broadcastInDim S16x8400x5 ![] bcast_S_S16x8400x5 main_cst
  let main_v9 : IVec S16x8400x5 1 := cmpf .olt main_v7 main_v8
  let main_c : IVec S_ 1 := constantI S_ 1 1#1
  let main_v10 : IVec S_ 1 := (fun x v => Host.reduce IntOp.andi x v reducesTo_S16x8400x5_S_d0_1_2 h_S_) main_v9 main_c
  let main_v11 : FVec F S16x100x4 .f32 := (extractStridedSlice S16x100x4 ![0, 0, 0] · slices_S16x100x85_S16x100x4_0_0_0) main_arg1
  let main_v12 : FVec F S16x100x4 .f32 := Host.absf main_v11
  let main_cst_0 : FVec F S_ .f32 := constant S_ .f32 0x7F800000#32
  let main_v13 : FVec F S16x100x4 .f32 := broadcastInDim S16x100x4 ![] bcast_S_S16x100x4 main_cst_0
  let main_v14 : IVec S16x100x4 1 := cmpf .olt main_v12 main_v13
  let main_v15 : IVec S16x100x1 1 := broadcastInDim S16x100x1 ![0, 1] bcast_S16x100_S16x100x1_0_1 main_v5
  let main_v16 : IVec S16x100x1 1 := noti main_v15
  let main_v17 : IVec S16x100x4 1 := broadcastInDim S16x100x4 ![0, 1, 2] bcast_S16x100x1_S16x100x4_0_1_2 main_v16
  let main_v18 : IVec S16x100x4 1 := ori main_v14 main_v17
  let main_c_1 : IVec S_ 1 := constantI S_ 1 1#1
  let main_v19 : IVec S_ 1 := (fun x v => Host.reduce IntOp.andi x v reducesTo_S16x100x4_S_d0_1_2 h_S_) main_v18 main_c_1
  fn_part1 (F := F) main_arg0 main_arg1 main_v5 main_v10 main_v19
-- ==== Kernel.lean ====
abbrev S16x8400x85 : Shape := ⟨3, ![16, 8400, 85]⟩
abbrev S16x100x85 : Shape := ⟨3, ![16, 100, 85]⟩
abbrev S16 : Shape := ⟨1, ![16]⟩
abbrev S16x8400x5 : Shape := ⟨3, ![16, 8400, 5]⟩
abbrev S16x5x8400 : Shape := ⟨3, ![16, 5, 8400]⟩
abbrev S16x1x8 : Shape := ⟨3, ![16, 1, 8]⟩
abbrev S1x5x8400 : Shape := ⟨3, ![1, 5, 8400]⟩
abbrev S1x8400x85 : Shape := ⟨3, ![1, 8400, 85]⟩
abbrev S1x100x85 : Shape := ⟨3, ![1, 100, 85]⟩
abbrev S1x1x8 : Shape := ⟨3, ![1, 1, 8]⟩
abbrev S5x8400 : Shape := ⟨2, ![5, 8400]⟩
abbrev S100x85 : Shape := ⟨2, ![100, 85]⟩
abbrev S1 : Shape := ⟨1, ![1]⟩
abbrev S100x1 : Shape := ⟨2, ![100, 1]⟩
abbrev S1x8400 : Shape := ⟨2, ![1, 8400]⟩
abbrev S100x8400 : Shape := ⟨2, ![100, 8400]⟩
abbrev S100 : Shape := ⟨1, ![100]⟩
abbrev S8400x85 : Shape := ⟨2, ![8400, 85]⟩
abbrev S8400 : Shape := ⟨1, ![8400]⟩
abbrev S1x1x8400 : Shape := ⟨3, ![1, 1, 8400]⟩
abbrev S1x1x1 : Shape := ⟨3, ![1, 1, 1]⟩
abbrev S1x100x1 : Shape := ⟨3, ![1, 100, 1]⟩
abbrev S100x80 : Shape := ⟨2, ![100, 80]⟩
abbrev S1x1 : Shape := ⟨2, ![1, 1]⟩
abbrev S1x8 : Shape := ⟨2, ![1, 8]⟩
abbrev S16x8 : Shape := ⟨2, ![16, 8]⟩
abbrev S_ : Shape := ⟨0, ![]⟩
abbrev S8 : Shape := ⟨1, ![8]⟩

abbrev nBuf : Space → Nat
  | .hbm => 38
  | .vmem => 8
  | .smem => 1
  | _ => 0

abbrev bufTy : (tb : Table) → Fin (tcTables nBuf tb) → BufTy
  | .hbm, ⟨0, _⟩ => ⟨S16x8400x85, .f32⟩
  | .hbm, ⟨1, _⟩ => ⟨S16x100x85, .f32⟩
  | .hbm, ⟨2, _⟩ => ⟨S16x8400x5, .f32⟩
  | .hbm, ⟨3, _⟩ => ⟨S16x5x8400, .f32⟩
  | .hbm, ⟨4, _⟩ => ⟨S16x1x8, .f32⟩
  | .hbm, ⟨5, _⟩ => ⟨S16x8, .f32⟩
  | .hbm, ⟨6, _⟩ => ⟨S_, .f32⟩
  | .hbm, ⟨7, _⟩ => ⟨S8, .f32⟩
  | .hbm, ⟨8, _⟩ => ⟨S1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x5x8400, .f32⟩
  | .local _ .vmem, ⟨1, _⟩ => ⟨S1x5x8400, .f32⟩
  | .local _ .vmem, ⟨2, _⟩ => ⟨S1x8400x85, .f32⟩
  | .local _ .vmem, ⟨3, _⟩ => ⟨S1x8400x85, .f32⟩
  | .local _ .vmem, ⟨4, _⟩ => ⟨S1x100x85, .f32⟩
  | .local _ .vmem, ⟨5, _⟩ => ⟨S1x100x85, .f32⟩
  | .local _ .vmem, ⟨6, _⟩ => ⟨S1x1x8, .f32⟩
  | .local _ .vmem, ⟨7, _⟩ => ⟨S1x1x8, .f32⟩
  | .local _ .smem, ⟨0, _⟩ => ⟨S16, .i32⟩
  | _, _ => ⟨S16x8400x85, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8400x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x85 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x8400x85 : Shape := ⟨3, ![16, 8400, 85]⟩
abbrev S16x100x85 : Shape := ⟨3, ![16, 100, 85]⟩
abbrev S16 : Shape := ⟨1, ![16]⟩
abbrev S100 : Shape := ⟨1, ![100]⟩
abbrev S1x100 : Shape := ⟨2, ![1, 100]⟩
abbrev S16x1 : Shape := ⟨2, ![16, 1]⟩
abbrev S16x100 : Shape := ⟨2, ![16, 100]⟩
abbrev S16x8400x4 : Shape := ⟨3, ![16, 8400, 4]⟩
abbrev S16x100x4 : Shape := ⟨3, ![16, 100, 4]⟩
abbrev S16x8400x1 : Shape := ⟨3, ![16, 8400, 1]⟩
abbrev S16x8400 : Shape := ⟨2, ![16, 8400]⟩
abbrev S16x100x1 : Shape := ⟨3, ![16, 100, 1]⟩
abbrev S16x8400x2 : Shape := ⟨3, ![16, 8400, 2]⟩
abbrev S16x8400x1x2 : Shape := ⟨4, ![16, 8400, 1, 2]⟩
abbrev S16x100x2 : Shape := ⟨3, ![16, 100, 2]⟩
abbrev S16x1x100x2 : Shape := ⟨4, ![16, 1, 100, 2]⟩
abbrev S16x8400x100x2 : Shape := ⟨4, ![16, 8400, 100, 2]⟩
abbrev S_ : Shape := ⟨0, ![]⟩
abbrev S16x8400x100x1 : Shape := ⟨4, ![16, 8400, 100, 1]⟩
abbrev S16x8400x100 : Shape := ⟨3, ![16, 8400, 100]⟩
abbrev S16x1x100 : Shape := ⟨3, ![16, 1, 100]⟩
abbrev S134400 : Shape := ⟨1, ![134400]⟩
abbrev S1600 : Shape := ⟨1, ![1600]⟩
abbrev S1600x1 : Shape := ⟨2, ![1600, 1]⟩
abbrev S16x8400x80 : Shape := ⟨3, ![16, 8400, 80]⟩
abbrev S1 : Shape := ⟨1, ![1]⟩
abbrev S1x1x1 : Shape := ⟨3, ![1, 1, 1]⟩
abbrev S16x100x80 : Shape := ⟨3, ![16, 100, 80]⟩

abbrev nBuf : Space → Nat
  | .hbm => 234
  | .vmem => 0
  | .smem => 0
  | _ => 0

abbrev hbmTy0_0 (i : Nat) : BufTy := match i % 128 with
  | 0 => ⟨S16x8400x85, .f32⟩
  | 1 => ⟨S16x100x85, .f32⟩
  | 2 => ⟨S16, .i32⟩
  | 3 => ⟨S100, .i32⟩
  | 4 => ⟨S1x100, .i32⟩
  | 5 => ⟨S16x1, .i32⟩
  | 6 => ⟨S16x100, .i32⟩
  | 7 => ⟨S16x100, .i32⟩
  | 8 => ⟨S16x100, .i1⟩
  | 9 => ⟨S16x100, .f32⟩
  | 10 => ⟨S16x8400x4, .f32⟩
  | 11 => ⟨S16x100x4, .f32⟩
  | 12 => ⟨S16x8400x1, .f32⟩
  | 13 => ⟨S16x8400, .f32⟩
  | 14 => ⟨S16x8400x1, .f32⟩
  | 15 => ⟨S16x8400, .f32⟩
  | 16 => ⟨S16x8400, .f32⟩
  | 17 => ⟨S16x8400x1, .f32⟩
  | 18 => ⟨S16x8400, .f32⟩
  | 19 => ⟨S16x8400x1, .f32⟩
  | 20 => ⟨S16x8400, .f32⟩
  | 21 => ⟨S16x8400, .f32⟩
  | 22 => ⟨S16x8400, .f32⟩
  | 23 => ⟨S16x100x1, .f32⟩
  | 24 => ⟨S16x100, .f32⟩
  | 25 => ⟨S16x100x1, .f32⟩
  | 26 => ⟨S16x100, .f32⟩
  | 27 => ⟨S16x100, .f32⟩
  | 28 => ⟨S16x100x1, .f32⟩
  | 29 => ⟨S16x100, .f32⟩
  | 30 => ⟨S16x100x1, .f32⟩
  | 31 => ⟨S16x100, .f32⟩
  | 32 => ⟨S16x100, .f32⟩
  | 33 => ⟨S16x100, .f32⟩
  | 34 => ⟨S16x8400x2, .f32⟩
  | 35 => ⟨S16x8400x1x2, .f32⟩
  | 36 => ⟨S16x100x2, .f32⟩
  | 37 => ⟨S16x1x100x2, .f32⟩
  | 38 => ⟨S16x8400x100x2, .f32⟩
  | 39 => ⟨S16x8400x100x2, .f32⟩
  | 40 => ⟨S16x8400x100x2, .f32⟩
  | 41 => ⟨S16x8400x2, .f32⟩
  | 42 => ⟨S16x8400x1x2, .f32⟩
  | 43 => ⟨S16x100x2, .f32⟩
  | 44 => ⟨S16x1x100x2, .f32⟩
  | 45 => ⟨S16x8400x100x2, .f32⟩
  | 46 => ⟨S16x8400x100x2, .f32⟩
  | 47 => ⟨S16x8400x100x2, .f32⟩
  | 48 => ⟨S16x8400x100x2, .f32⟩
  | 49 => ⟨S_, .i32⟩
  | 50 => ⟨S_, .f32⟩
  | 51 => ⟨S16x8400x100x2, .f32⟩
  | 52 => ⟨S16x8400x100x2, .f32⟩
  | 53 => ⟨S16x8400x100x1, .f32⟩
  | 54 => ⟨S16x8400x100, .f32⟩
  | 55 => ⟨S16x8400x100x1, .f32⟩
  | 56 => ⟨S16x8400x100, .f32⟩
  | 57 => ⟨S16x8400x100, .f32⟩
  | 58 => ⟨S16x8400x1, .f32⟩
  | 59 => ⟨S16x1x100, .f32⟩
  | 60 => ⟨S16x8400x100, .f32⟩
  | 61 => ⟨S16x8400x100, .f32⟩
  | 62 => ⟨S16x8400x100, .f32⟩
  | 63 => ⟨S16x8400x100, .f32⟩
  | 64 => ⟨S16x8400x100, .f32⟩
  | 65 => ⟨S16x8400x2, .f32⟩
  | 66 => ⟨S16x8400x1x2, .f32⟩
  | 67 => ⟨S16x100x2, .f32⟩
  | 68 => ⟨S16x1x100x2, .f32⟩
  | 69 => ⟨S16x8400x100x2, .f32⟩
  | 70 => ⟨S16x8400x100x2, .f32⟩
  | 71 => ⟨S16x8400x100x2, .f32⟩
  | 72 => ⟨S16x8400x2, .f32⟩
  | 73 => ⟨S16x8400x1x2, .f32⟩
  | 74 => ⟨S16x100x2, .f32⟩
  | 75 => ⟨S16x1x100x2, .f32⟩
  | 76 => ⟨S16x8400x100x2, .f32⟩
  | 77 => ⟨S16x8400x100x2, .f32⟩
  | 78 => ⟨S16x8400x100x2, .f32⟩
  | 79 => ⟨S16x8400x100x2, .f32⟩
  | 80 => ⟨S_, .i32⟩
  | 81 => ⟨S_, .f32⟩
  | 82 => ⟨S16x8400x100x2, .f32⟩
  | 83 => ⟨S16x8400x100x2, .f32⟩
  | 84 => ⟨S16x8400x100x1, .f32⟩
  | 85 => ⟨S16x8400x100, .f32⟩
  | 86 => ⟨S16x8400x100x1, .f32⟩
  | 87 => ⟨S16x8400x100, .f32⟩
  | 88 => ⟨S16x8400x100, .f32⟩
  | 89 => ⟨S16x8400x100, .f32⟩
  | 90 => ⟨S16x8400x100, .f32⟩
  | 91 => ⟨S16x8400x100, .f32⟩
  | 92 => ⟨S_, .f32⟩
  | 93 => ⟨S16x100, .f32⟩
  | 94 => ⟨S16x8400x100, .i32⟩
  | 95 => ⟨S_, .f32⟩
  | 96 => ⟨S_, .i32⟩
  | 97 => ⟨S16x100, .f32⟩
  | 98 => ⟨S16x100, .i32⟩
  | 99 => ⟨S_, .f32⟩
  | 100 => ⟨S16x100, .f32⟩
  | 101 => ⟨S16x100, .f32⟩
  | 102 => ⟨S16x100, .f32⟩
  | 103 => ⟨S_, .f32⟩
  | 104 => ⟨S16, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S16, .i32⟩
  | 112 => ⟨S_, .i32⟩
  | 113 => ⟨S16, .i32⟩
  | 114 => ⟨S16, .i32⟩
  | 115 => ⟨S16x1, .i32⟩
  | 116 => ⟨S16x100, .i32⟩
  | 117 => ⟨S16x100, .i32⟩
  | 118 => ⟨S_, .i32⟩
  | 119 => ⟨S_, .i32⟩
  | 120 => ⟨S16x100, .i32⟩
  | 121 => ⟨S16x100, .i32⟩
  | 122 => ⟨S_, .f32⟩
  | 123 => ⟨S134400, .f32⟩
  | 124 => ⟨S1600, .i32⟩
  | 125 => ⟨S_, .i32⟩
  | 126 => ⟨S1600, .i32⟩
  | 127 => ⟨S1600, .i1⟩
  | _ => ⟨S16x8400x85, .f32⟩

abbrev hbmTy0_1 (i : Nat) : BufTy := match i % 128 with
  | 0 => ⟨S_, .i32⟩
  | 1 => ⟨S1600, .i32⟩
  | 2 => ⟨S1600, .i32⟩
  | 3 => ⟨S1600, .i32⟩
  | 4 => ⟨S1600x1, .i32⟩
  | 5 => ⟨S_, .f32⟩
  | 6 => ⟨S1600, .f32⟩
  | 7 => ⟨S134400, .f32⟩
  | 8 => ⟨S16x8400, .f32⟩
  | 9 => ⟨S16x8400x1, .f32⟩
  | 10 => ⟨S16x8400, .f32⟩
  | 11 => ⟨S_, .f32⟩
  | 12 => ⟨S16x8400, .f32⟩
  | 13 => ⟨S_, .f32⟩
  | 14 => ⟨S16x8400, .f32⟩
  | 15 => ⟨S16x8400, .f32⟩
  | 16 => ⟨S16x8400, .f32⟩
  | 17 => ⟨S16x8400, .f32⟩
  | 18 => ⟨S16x8400, .f32⟩
  | 19 => ⟨S16x8400, .f32⟩
  | 20 => ⟨S16x8400, .f32⟩
  | 21 => ⟨S16x8400, .f32⟩
  | 22 => ⟨S16x8400, .f32⟩
  | 23 => ⟨S16x8400, .f32⟩
  | 24 => ⟨S_, .f32⟩
  | 25 => ⟨S16, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S16x8400, .f32⟩
  | 34 => ⟨S_, .f32⟩
  | 35 => ⟨S16x8400, .f32⟩
  | 36 => ⟨S16x8400, .f32⟩
  | 37 => ⟨S16x8400, .f32⟩
  | 38 => ⟨S16x8400, .f32⟩
  | 39 => ⟨S16x8400, .f32⟩
  | 40 => ⟨S16x8400, .f32⟩
  | 41 => ⟨S16x8400, .f32⟩
  | 42 => ⟨S16x8400, .f32⟩
  | 43 => ⟨S16x8400, .f32⟩
  | 44 => ⟨S_, .f32⟩
  | 45 => ⟨S16x8400, .f32⟩
  | 46 => ⟨S16x8400, .f32⟩
  | 47 => ⟨S16x8400, .f32⟩
  | 48 => ⟨S_, .f32⟩
  | 49 => ⟨S16, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S16x8400x80, .f32⟩
  | 57 => ⟨S16x100x1, .i32⟩
  | 58 => ⟨S_, .i32⟩
  | 59 => ⟨S16x100x1, .i32⟩
  | 60 => ⟨S16x100x1, .i1⟩
  | 61 => ⟨S_, .i32⟩
  | 62 => ⟨S16x100x1, .i32⟩
  | 63 => ⟨S16x100x1, .i32⟩
  | 64 => ⟨S16x100x1, .i32⟩
  | 65 => ⟨S1, .i32⟩
  | 66 => ⟨S_, .i32⟩
  | 67 => ⟨S16x100x1, .i32⟩
  | 68 => ⟨S16x100x1, .i1⟩
  | 69 => ⟨S1x1x1, .i32⟩
  | 70 => ⟨S16x100x1, .i32⟩
  | 71 => ⟨S16x100x1, .i1⟩
  | 72 => ⟨S16x100x1, .i1⟩
  | 73 => ⟨S_, .i1⟩
  | 74 => ⟨S16x100, .i1⟩
  | 75 => ⟨S16x100x80, .f32⟩
  | 76 => ⟨S16x100x80, .i1⟩
  | 77 => ⟨S_, .f32⟩
  | 78 => ⟨S16x100x80, .f32⟩
  | 79 => ⟨S16x100x80, .f32⟩
  | 80 => ⟨S16x100x80, .f32⟩
  | 81 => ⟨S_, .f32⟩
  | 82 => ⟨S16x100x80, .f32⟩
  | 83 => ⟨S16x100x80, .f32⟩
  | 84 => ⟨S16x100x80, .f32⟩
  | 85 => ⟨S16x100x80, .f32⟩
  | 86 => ⟨S16x100x80, .f32⟩
  | 87 => ⟨S16x100x80, .f32⟩
  | 88 => ⟨S16x100x80, .f32⟩
  | 89 => ⟨S16x100x80, .f32⟩
  | 90 => ⟨S16x100x80, .f32⟩
  | 91 => ⟨S_, .f32⟩
  | 92 => ⟨S16x100, .f32⟩
  | 93 => ⟨S16x100, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | _ => ⟨S16x8400x85, .f32⟩

abbrev hbmTy (i : Nat) : BufTy := match i / 128 with
  | 0 => hbmTy0_0 i
  | 1 => hbmTy0_1 i
  | _ => ⟨S16x8400x85, .f32⟩

abbrev bufTy : (tb : Table) → Fin (tcTables nBuf tb) → BufTy
  | .hbm, ⟨i, _⟩ => hbmTy i
  | _, _ => ⟨S16x8400x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_c : Ref sig .tc := ⟨.hbm, 49, rfl⟩
abbrev main_call0_v0 : Ref sig .tc := ⟨.hbm, 50, rfl⟩
abbrev main_call0_v1 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_c_0 : Ref sig .tc := ⟨.hbm, 80, rfl⟩
abbrev main_call1_v0 : Ref sig .tc := ⟨.hbm, 81, rfl⟩
abbrev main_call1_v1 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst : Ref sig .tc := ⟨.hbm, 92, rfl⟩
abbrev main_v83 : Ref sig .tc := ⟨.hbm, 93, rfl⟩
abbrev main_call2_v0 : Ref sig .tc := ⟨.hbm, 94, rfl⟩
abbrev main_call2_cst : Ref sig .tc := ⟨.hbm, 95, rfl⟩
abbrev main_call2_c : Ref sig .tc := ⟨.hbm, 96, rfl⟩
abbrev main_call2_v1_0 : Ref sig .tc := ⟨.hbm, 97, rfl⟩
abbrev main_v84 : Ref sig .tc := ⟨.hbm, 98, rfl⟩
abbrev main_cst_1 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_cst_2 : Ref sig .tc := ⟨.hbm, 103, rfl⟩
abbrev main_v88 : Ref sig .tc := ⟨.hbm, 104, rfl⟩
abbrev main_cst_3 : Ref sig .tc := ⟨.hbm, 105, rfl⟩
abbrev main_v89 : Ref sig .tc := ⟨.hbm, 106, rfl⟩
abbrev main_cst_4 : Ref sig .tc := ⟨.hbm, 107, rfl⟩
abbrev main_v90 : Ref sig .tc := ⟨.hbm, 108, rfl⟩
abbrev main_cst_5 : Ref sig .tc := ⟨.hbm, 109, rfl⟩
abbrev main_v91 : Ref sig .tc := ⟨.hbm, 110, rfl⟩
abbrev main_v92 : Ref sig .tc := ⟨.hbm, 111, rfl⟩
abbrev main_c_6 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_c_7 : Ref sig .tc := ⟨.hbm, 118, rfl⟩
abbrev main_call3_v0 : Ref sig .tc := ⟨.hbm, 119, rfl⟩
abbrev main_call3_v1 : Ref sig .tc := ⟨.hbm, 120, rfl⟩
abbrev main_v98 : Ref sig .tc := ⟨.hbm, 121, rfl⟩
abbrev main_cst_8 : Ref sig .tc := ⟨.hbm, 122, rfl⟩
abbrev main_v99 : Ref sig .tc := ⟨.hbm, 123, rfl⟩
abbrev main_v100 : Ref sig .tc := ⟨.hbm, 124, rfl⟩
abbrev main_c_9 : Ref sig .tc := ⟨.hbm, 125, rfl⟩
abbrev main_v101 : Ref sig .tc := ⟨.hbm, 126, rfl⟩
abbrev main_v102 : Ref sig .tc := ⟨.hbm, 127, rfl⟩
abbrev main_c_10 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_11 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_12 : Ref sig .tc := ⟨.hbm, 139, rfl⟩
abbrev main_v112 : Ref sig .tc := ⟨.hbm, 140, rfl⟩
abbrev main_cst_13 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_14 : Ref sig .tc := ⟨.hbm, 152, rfl⟩
abbrev main_v123 : Ref sig .tc := ⟨.hbm, 153, rfl⟩
abbrev main_cst_15 : Ref sig .tc := ⟨.hbm, 154, rfl⟩
abbrev main_v124 : Ref sig .tc := ⟨.hbm, 155, rfl⟩
abbrev main_cst_16 : Ref sig .tc := ⟨.hbm, 156, rfl⟩
abbrev main_v125 : Ref sig .tc := ⟨.hbm, 157, rfl⟩
abbrev main_cst_17 : Ref sig .tc := ⟨.hbm, 158, rfl⟩
abbrev main_v126 : Ref sig .tc := ⟨.hbm, 159, rfl⟩
abbrev main_cst_18 : Ref sig .tc := ⟨.hbm, 160, rfl⟩
abbrev main_v127 : Ref sig .tc := ⟨.hbm, 161, rfl⟩
abbrev main_cst_19 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_20 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_21 : Ref sig .tc := ⟨.hbm, 176, rfl⟩
abbrev main_v140 : Ref sig .tc := ⟨.hbm, 177, rfl⟩
abbrev main_cst_22 : Ref sig .tc := ⟨.hbm, 178, rfl⟩
abbrev main_v141 : Ref sig .tc := ⟨.hbm, 179, rfl⟩
abbrev main_cst_23 : Ref sig .tc := ⟨.hbm, 180, rfl⟩
abbrev main_v142 : Ref sig .tc := ⟨.hbm, 181, rfl⟩
abbrev main_cst_24 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_call4_c : Ref sig .tc := ⟨.hbm, 186, rfl⟩
abbrev main_call4_v0 : Ref sig .tc := ⟨.hbm, 187, rfl⟩
abbrev main_call4_v1 : Ref sig .tc := ⟨.hbm, 188, rfl⟩
abbrev main_call4_c_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_c_1 : Ref sig .tc := ⟨.hbm, 193, rfl⟩
abbrev main_call4_c_2 : Ref sig .tc := ⟨.hbm, 194, rfl⟩
abbrev main_call4_v5 : Ref sig .tc := ⟨.hbm, 195, rfl⟩
abbrev main_call4_v6 : Ref sig .tc := ⟨.hbm, 196, rfl⟩
abbrev main_call4_v7 : Ref sig .tc := ⟨.hbm, 197, rfl⟩
abbrev main_call4_v8 : Ref sig .tc := ⟨.hbm, 198, rfl⟩
abbrev main_call4_v9 : Ref sig .tc := ⟨.hbm, 199, rfl⟩
abbrev main_call4_v10 : Ref sig .tc := ⟨.hbm, 200, rfl⟩
abbrev main_call4_c_3 : Ref sig .tc := ⟨.hbm, 201, rfl⟩
abbrev main_call4_v11 : Ref sig .tc := ⟨.hbm, 202, rfl⟩
abbrev main_call4_v12 : Ref sig .tc := ⟨.hbm, 203, rfl⟩
abbrev main_call4_v13 : Ref sig .tc := ⟨.hbm, 204, rfl⟩
abbrev main_call4_cst : Ref sig .tc := ⟨.hbm, 205, rfl⟩
abbrev main_call4_v14 : Ref sig .tc := ⟨.hbm, 206, rfl⟩
abbrev main_v146 : Ref sig .tc := ⟨.hbm, 207, rfl⟩
abbrev main_v147 : Ref sig .tc := ⟨.hbm, 208, rfl⟩
abbrev main_cst_25 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_26 : Ref sig .tc := ⟨.hbm, 219, rfl⟩
abbrev main_v157 : Ref sig .tc := ⟨.hbm, 220, rfl⟩
abbrev main_v158 : Ref sig .tc := ⟨.hbm, 221, rfl⟩
abbrev main_cst_27 : Ref sig .tc := ⟨.hbm, 222, rfl⟩
abbrev main_v159 : Ref sig .tc := ⟨.hbm, 223, rfl⟩
abbrev main_cst_28 : Ref sig .tc := ⟨.hbm, 224, rfl⟩
abbrev main_v160 : Ref sig .tc := ⟨.hbm, 225, rfl⟩
abbrev main_cst_29 : Ref sig .tc := ⟨.hbm, 226, rfl⟩
abbrev main_v161 : Ref sig .tc := ⟨.hbm, 227, rfl⟩
abbrev main_v162 : Ref sig .tc := ⟨.hbm, 228, rfl⟩
abbrev main_cst_30 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩

abbrev nD : Nat := 1
abbrev τ : Topo := Topo.v7x

variable {F : FTy → Type} [FloatOps F]
-- ==== Proof.PreFacts.lean ====
module

public import proofs.«01_k».proof.Pre_boxes_finite_and_hulls_proper

@[expose] public section

/-! The side conditions of the precondition's array program: slices inside, broadcasts aligned, reductions of the stated axes. -/

namespace Cert.Pre_boxes_finite_and_hulls_proper

open Idealize.ShloMosaic

theorem facts_hold : Facts := by
  constructor <;> decide

instance instFacts : Facts := facts_hold

end Cert.Pre_boxes_finite_and_hulls_proper

end
-- ==== Proof.RefOps.lean ====
module

public import proofs.«01_k».proof.Proof.Gen.ReferenceIdeal
public import Idealize.ShloMosaic.Lib.StableHlo.Run
public import Idealize.ShloMosaic.Lib.Pipeline.Frame

@[expose] public section

/-! The reference's operations as lists, and the program as their sequence. -/

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 236 (window `main_part0`). -/
abbrev ops_part0_0 : List (HloOp τ sig (Elt F)) :=
  [ nullary main_v0 (iotaInDim S100 32 0),
    unary main_v0 main_v1 (broadcastInDim S1x100 ![1] bcast_S100_S1x100_1 : (⟨S100, .i32⟩ : BufTy).Contents (Elt F) → (⟨S1x100, .i32⟩ : BufTy).Contents (Elt F)),
    unary main_arg2 main_v2 (broadcastInDim S16x1 ![0] bcast_S16_S16x1_0 : (⟨S16, .i32⟩ : BufTy).Contents (Elt F) → (⟨S16x1, .i32⟩ : BufTy).Contents (Elt F)),
    unary main_v1 main_v3 (broadcastInDim S16x100 ![0, 1] bcast_S1x100_S16x100_0_1 : (⟨S1x100, .i32⟩ : BufTy).Contents (Elt F) → (⟨S16x100, .i32⟩ : BufTy).Contents (Elt F)),
    unary main_v2 main_v4 (broadcastInDim S16x100 ![0, 1] bcast_S16x1_S16x100_0_1 : (⟨S16x1, .i32⟩ : BufTy).Contents (Elt F) → (⟨S16x100, .i32⟩ : BufTy).Contents (Elt F)),
    binary main_v3 main_v4 main_v5 (cmpi .slt : (⟨S16x100, .i32⟩ : BufTy).Contents (Elt F) → (⟨S16x100, .i32⟩ : BufTy).Contents (Elt F) → (⟨S16x100, .i1⟩ : BufTy).Contents (Elt F)),
    unary main_v5 main_v6 (uitofp .f32 : (⟨S16x100, .i1⟩ : BufTy).Contents (Elt F) → (⟨S16x100, .f32⟩ : BufTy).Contents (Elt F)),
    unary main_arg0 main_v7 ((extractStridedSlice S16x8400x4 ![0, 0, 0] · slices_S16x8400x85_S16x8400x4_0_0_0) : (⟨S16x8400x85, .f32⟩ : BufTy).Contents (Elt F) → (⟨S16x8400x4, .f32⟩ : BufTy).Contents (Elt F)),
    unary main_arg1 main_v8 ((extractStridedSlice S16x100x4 ![0, 0, 0] · slices_S16x100x85_S16x100x4_0_0_0) : (⟨S16x100x85, .f32⟩ : BufTy).Contents (Elt F) → (⟨S16x100x4, .f32⟩ : BufTy).Contents (Elt F)),
    unary main_v7 main_v9 ((extractStridedSlice S16x8400x1 ![0, 0, 2] · slices_S16x8400x4_S16x8400x1_0_0_2) : (⟨S16x8400x4, .f32⟩ : BufTy).Contents (Elt F) → (⟨S16x8400x1, .f32⟩ : BufTy).Contents (Elt F)),
    reshape main_v9 main_v10 (rfl : (.f32 : EltTy) = .f32) shapeCasts_S16x8400x1_S16x8400,
    unary main_v7 main_v11 ((extractStridedSlice S16x8400x1 ![0, 0, 0] · slices_S16x8400x4_S16x8400x1_0_0_0) : (⟨S16x8400x4, .f32⟩ : BufTy).Contents (Elt F) → (⟨S16x8400x1, .f32⟩ : BufTy).Contents (Elt F)),
    reshape main_v11 main_v12 (rfl : (.f32 : EltTy) = .f32) shapeCasts_S16x8400x1_S16x8400,
    binary main_v10 main_v12 main_v13 (subf : (⟨S16x8400, .f32⟩ : BufTy).Contents (Elt F) → (⟨S16x8400, .f32⟩ : BufTy).Contents (Elt F) → (⟨S16x8400, .f32⟩ : BufTy).Contents (Elt F)),
    unary main_v7 main_v14 ((extractStridedSlice S16x8400x1 ![0, 0, 3] · slices_S16x8400x4_S16x8400x1_0_0_3) : (⟨S16x8400x4, .f32⟩ : BufTy).Contents (Elt F) → (⟨S16x8400x1, .f32⟩ : BufTy).Contents (Elt F)),
    reshape main_v14 main_v15 (rfl : (.f32 : EltTy) = .f32) shapeCasts_S16x8400x1_S16x8400,
    unary main_v7 main_v16 ((extractStridedSlice S16x8400x1 ![0, 0, 1] · slices_S16x8400x4_S16x8400x1_0_0_1) : (⟨S16x8400x4, .f32⟩ : BufTy).Contents (Elt F) → (⟨S16x8400x1, .f32⟩ : BufTy).Contents (Elt F)),
    reshape main_v16 main_v17 (rfl : (.f32 : EltTy) = .f32) shapeCasts_S16x8400x1_S16x8400,
    binary main_v15 main_v17 main_v18 (subf : (⟨S16x8400, .f32⟩ : BufTy).Contents (Elt F) → (⟨S16x8400, .f32⟩ : BufTy).Contents (Elt F) → (⟨S16x8400, .f32⟩ : BufTy).Contents (Elt F)),
    binary main_v13 main_v18 main_v19 (mulf : (⟨S16x8400, .f32⟩ : BufTy).Contents (Elt F) → (⟨S16x8400, .f32⟩ : BufTy).Contents (Elt F) → (⟨S16x8400, .f32⟩ : BufTy).Contents (Elt F)),
    unary main_v8 main_v20 ((extractStridedSlice S16x100x1 ![0, 0, 2] · slices_S16x100x4_S16x100x1_0_0_2) : (⟨S16x100x4, .f32⟩ : BufTy).Contents (Elt F) → (⟨S16x100x1, .f32⟩ : BufTy).Contents (Elt F)),
    reshape main_v20 main_v21 (rfl : (.f32 : EltTy) = .f32) shapeCasts_S16x100x1_S16x100,
    unary main_v8 main_v22 ((extractStridedSlice S16x100x1 ![0, 0, 0] · slices_S16x100x4_S16x100x1_0_0_0) : (⟨S16x100x4, .f32⟩ : BufTy).Contents (Elt F) → (⟨S16x100x1, .f32⟩ : BufTy).Contents (Elt F)),
    reshape main_v22 main_v23 (rfl : (.f32 : EltTy) = .f32) shapeCasts_S16x100x1_S16x100,
    binary main_v21 main_v23 main_v24 (subf : (⟨S16x100, .f32⟩ : BufTy).Contents (Elt F) → (⟨S16x100, .f32⟩ : BufTy).Contents (Elt F) → (⟨S16x100, .f32⟩ : BufTy).Contents (Elt F)),
    unary main_v8 main_v25 ((extractStridedSlice S16x100x1 ![0, 0, 3] · slices_S16x100x4_S16x100x1_0_0_3) : (⟨S16x100x4, .f32⟩ : BufTy).Contents (Elt F) → (⟨S16x100x1, .f32⟩ : BufTy).Contents (Elt F)),
    reshape main_v25 main_v26 (rfl : (.f32 : EltTy) = .f32) shapeCasts_S16x100x1_S16x100,
    unary main_v8 main_v27 ((extractStridedSlice S16x100x1 ![0, 0, 1] · slices_S16x100x4_S16x100x1_0_0_1) : (⟨S16x100x4, .f32⟩ : BufTy).Contents (Elt F) → (⟨S16x100x1, .f32⟩ : BufTy).Contents (Elt F)),
    reshape main_v27 main_v28 (rfl : (.f32 : EltTy) = .f32) shapeCasts_S16x100x1_S16x100,
    binary main_v26 main_v28 main_v29 (subf : (⟨S16x100, .f32⟩ : BufTy).Contents (Elt F) → (⟨S16x100, .f32⟩ : BufTy).Contents (Elt F) → (⟨S16x100, .f32⟩ : BufTy).Contents (Elt F)) ]

/-- @main's operations 31 … 60 of 236 (window `main_part0`). -/
abbrev ops_part0_1 : List (HloOp τ sig (Elt F)) :=
  [ binary main_v24 main_v29 main_v30 (mulf : (⟨S16x100, .f32⟩ : BufTy).Contents (Elt F) → (⟨S16x100, .f32⟩ : BufTy).Contents (Elt F) → (⟨S16x100, .f32⟩ : BufTy).Contents (Elt F)),
    unary main_v7 main_v31 ((extractStridedSlice S16x8400x2 ![0, 0, 0] · slices_S16x8400x4_S16x8400x2_0_0_0) : (⟨S16x8400x4, .f32⟩ : BufTy).Contents (Elt F) → (⟨S16x8400x2, .f32⟩ : BufTy).Contents (Elt F)),
    unary main_v31 main_v32 (broadcastInDim S16x8400x1x2 ![0, 1, 3] bcast_S16x8400x2_S16x8400x1x2_0_1_3 : (⟨S16x8400x2, .f32⟩ : BufTy).Contents (Elt F) → (⟨S16x8400x1x2, .f32⟩ : BufTy).Contents (Elt F)),
    unary main_v8 main_v33 ((extractStridedSlice S16x100x2 ![0, 0, 0] · slices_S16x100x4_S16x100x2_0_0_0) : (⟨S16x100x4, .f32⟩ : BufTy).Contents (Elt F) → (⟨S16x100x2, .f32⟩ : BufTy).Contents (Elt F)),
    unary main_v33 main_v34 (broadcastInDim S16x1x100x2 ![0, 2, 3] bcast_S16x100x2_S16x1x100x2_0_2_3 : (⟨S16x100x2, .f32⟩ : BufTy).Contents (Elt F) → (⟨S16x1x100x2, .f32⟩ : BufTy).Contents (Elt F)),
    unary main_v32 main_v35 (broadcastInDim S16x8400x100x2 ![0, 1, 2, 3] bcast_S16x8400x1x2_S16x8400x100x2_0_1_2_3 : (⟨S16x8400x1x2, .f32⟩ : BufTy).Contents (Elt F) → (⟨S16x8400x100x2, .f32⟩ : BufTy).Contents (Elt F)),
    unary main_v34 main_v36 (broadcastInDim S16x8400x100x2 ![0, 1, 2, 3] bcast_S16x1x100x2_S16x8400x100x2_0_1_2_3 : (⟨S16x1x100x2, .f32⟩ : BufTy).Contents (Elt F) → (⟨S16x8400x100x2, .f32⟩ : BufTy).Contents (Elt F)),
    binary main_v35 main_v36 main_v37 (maximumf : (⟨S16x8400x100x2, .f32⟩ : BufTy).Contents (Elt F) → (⟨S16x8400x100x2, .f32⟩ : BufTy).Contents (Elt F) → (⟨S16x8400x100x2, .f32⟩ : BufTy).Contents (Elt F)),
    unary main_v7 main_v38 ((extractStridedSlice S16x8400x2 ![0, 0, 2] · slices_S16x8400x4_S16x8400x2_0_0_2) : (⟨S16x8400x4, .f32⟩ : BufTy).Contents (Elt F) → (⟨S16x8400x2, .f32⟩ : BufTy).Contents (Elt F)),
    unary main_v38 main_v39 (broadcastInDim S16x8400x1x2 ![0, 1, 3] bcast_S16x8400x2_S16x8400x1x2_0_1_3 : (⟨S16x8400x2, .f32⟩ : BufTy).Contents (Elt F) → (⟨S16x8400x1x2, .f32⟩ : BufTy).Contents (Elt F)),
    unary main_v8 main_v40 ((extractStridedSlice S16x100x2 ![0, 0, 2] · slices_S16x100x4_S16x100x2_0_0_2) : (⟨S16x100x4, .f32⟩ : BufTy).Contents (Elt F) → (⟨S16x100x2, .f32⟩ : BufTy).Contents (Elt F)),
    unary main_v40 main_v41 (broadcastInDim S16x1x100x2 ![0, 2, 3] bcast_S16x100x2_S16x1x100x2_0_2_3 : (⟨S16x100x2, .f32⟩ : BufTy).Contents (Elt F) → (⟨S16x1x100x2, .f32⟩ : BufTy).Contents (Elt F)),
    unary main_v39 main_v42 (broadcastInDim S16x8400x100x2 ![0, 1, 2, 3] bcast_S16x8400x1x2_S16x8400x100x2_0_1_2_3 : (⟨S16x8400x1x2, .f32⟩ : BufTy).Contents (Elt F) → (⟨S16x8400x100x2, .f32⟩ : BufTy).Contents (Elt F)),
    unary main_v41 main_v43 (broadcastInDim S16x8400x100x2 ![0, 1, 2, 3] bcast_S16x1x100x2_S16x8400x100x2_0_1_2_3 : (⟨S16x1x100x2, .f32⟩ : BufTy).Contents (Elt F) → (⟨S16x8400x100x2, .f32⟩ : BufTy).Contents (Elt F)),
    binary main_v42 main_v43 main_v44 (minimumf : (⟨S16x8400x100x2, .f32⟩ : BufTy).Contents (Elt F) → (⟨S16x8400x100x2, .f32⟩ : BufTy).Contents (Elt F) → (⟨S16x8400x100x2, .f32⟩ : BufTy).Contents (Elt F)),
    binary main_v44 main_v37 main_v45 (subf : (⟨S16x8400x100x2, .f32⟩ : BufTy).Contents (Elt F) → (⟨S16x8400x100x2, .f32⟩ : BufTy).Contents (Elt F) → (⟨S16x8400x100x2, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S16x8400x100x2, .f32⟩) main_call0_v1) (broadcastInDim S16x8400x100x2 ![] bcast_S_S16x8400x100x2),
    TRef.binary (TRef.of (T := ⟨S16x8400x100x2, .f32⟩) main_call0_v1) (TRef.of (T := ⟨S16x8400x100x2, .f32⟩) main_v45) (TRef.of (T := ⟨S16x8400x100x2, .f32⟩) main_v46) maximumf,
    unary main_v46 main_v47 ((extractStridedSlice S16x8400x100x1 ![0, 0, 0, 0] · slices_S16x8400x100x2_S16x8400x100x1_0_0_0_0) : (⟨S16x8400x100x2, .f32⟩ : BufTy).Contents (Elt F) → (⟨S16x8400x100x1, .f32⟩ : BufTy).Contents (Elt F)),
    reshape main_v47 main_v48 (rfl : (.f32 : EltTy) = .f32) shapeCasts_S16x8400x100x1_S16x8400x100,
    unary main_v46 main_v49 ((extractStridedSlice S16x8400x100x1 ![0, 0, 0, 1] · slices_S16x8400x100x2_S16x8400x100x1_0_0_0_1) : (⟨S16x8400x100x2, .f32⟩ : BufTy).Contents (Elt F) → (⟨S16x8400x100x1, .f32⟩ : BufTy).Contents (Elt F)),
    reshape main_v49 main_v50 (rfl : (.f32 : EltTy) = .f32) shapeCasts_S16x8400x100x1_S16x8400x100,
    binary main_v48 main_v50 main_v51 (mulf : (⟨S16x8400x100, .f32⟩ : BufTy).Contents (Elt F) → (⟨S16x8400x100, .f32⟩ : BufTy).Contents (Elt F) → (⟨S16x8400x100, .f32⟩ : BufTy).Contents (Elt F)),
    unary main_v19 main_v52 (broadcastInDim S16x8400x1 ![0, 1] bcast_S16x8400_S16x8400x1_0_1 : (⟨S16x8400, .f32⟩ : BufTy).Contents (Elt F) → (⟨S16x8400x1, .f32⟩ : BufTy).Contents (Elt F)),
    unary main_v30 main_v53 (broadcastInDim S16x1x100 ![0, 2] bcast_S16x100_S16x1x100_0_2 : (⟨S16x100, .f32⟩ : BufTy).Contents (Elt F) → (⟨S16x1x100, .f32⟩ : BufTy).Contents (Elt F)),
    unary main_v52 main_v54 (broadcastInDim S16x8400x100 ![0, 1, 2] bcast_S16x8400x1_S16x8400x100_0_1_2 : (⟨S16x8400x1, .f32⟩ : BufTy).Contents (Elt F) → (⟨S16x8400x100, .f32⟩ : BufTy).Contents (Elt F)),
    unary main_v53 main_v55 (broadcastInDim S16x8400x100 ![0, 1, 2] bcast_S16x1x100_S16x8400x100_0_1_2 : (⟨S16x1x100, .f32⟩ : BufTy).Contents (Elt F) → (⟨S16x8400x100, .f32⟩ : BufTy).Contents (Elt F)),
    binary main_v54 main_v55 main_v56 (addf : (⟨S16x8400x100, .f32⟩ : BufTy).Contents (Elt F) → (⟨S16x8400x100, .f32⟩ : BufTy).Contents (Elt F) → (⟨S16x8400x100, .f32⟩ : BufTy).Contents (Elt F)) ]

/-- @main's operations 61 … 62 of 236 (window `main_part0`). -/
abbrev ops_part0_2 : List (HloOp τ sig (Elt F)) :=
  [ binary main_v56 main_v51 main_v57 (subf : (⟨S16x8400x100, .f32⟩ : BufTy).Contents (Elt F) → (⟨S16x8400x100, .f32⟩ : BufTy).Contents (Elt F) → (⟨S16x8400x100, .f32⟩ : BufTy).Contents (Elt F)),
    binary main_v51 main_v57 main_v58 (Host.divf : (⟨S16x8400x100, .f32⟩ : BufTy).Contents (Elt F) → (⟨S16x8400x100, .f32⟩ : BufTy).Contents (Elt F) → (⟨S16x8400x100, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 236 (window `main_part1`). -/
abbrev ops_part1_0 : List (HloOp τ sig (Elt F)) :=
  [ unary main_v7 main_v59 ((extractStridedSlice S16x8400x2 ![0, 0, 0] · slices_S16x8400x4_S16x8400x2_0_0_0) : (⟨S16x8400x4, .f32⟩ : BufTy).Contents (Elt F) → (⟨S16x8400x2, .f32⟩ : BufTy).Contents (Elt F)),
    unary main_v59 main_v60 (broadcastInDim S16x8400x1x2 ![0, 1, 3] bcast_S16x8400x2_S16x8400x1x2_0_1_3 : (⟨S16x8400x2, .f32⟩ : BufTy).Contents (Elt F) → (⟨S16x8400x1x2, .f32⟩ : BufTy).Contents (Elt F)),
    unary main_v8 main_v61 ((extractStridedSlice S16x100x2 ![0, 0, 0] · slices_S16x100x4_S16x100x2_0_0_0) : (⟨S16x100x4, .f32⟩ : BufTy).Contents (Elt F) → (⟨S16x100x2, .f32⟩ : BufTy).Contents (Elt F)),
    unary main_v61 main_v62 (broadcastInDim S16x1x100x2 ![0, 2, 3] bcast_S16x100x2_S16x1x100x2_0_2_3 : (⟨S16x100x2, .f32⟩ : BufTy).Contents (Elt F) → (⟨S16x1x100x2, .f32⟩ : BufTy).Contents (Elt F)),
    unary main_v60 main_v63 (broadcastInDim S16x8400x100x2 ![0, 1, 2, 3] bcast_S16x8400x1x2_S16x8400x100x2_0_1_2_3 : (⟨S16x8400x1x2, .f32⟩ : BufTy).Contents (Elt F) → (⟨S16x8400x100x2, .f32⟩ : BufTy).Contents (Elt F)),
    unary main_v62 main_v64 (broadcastInDim S16x8400x100x2 ![0, 1, 2, 3] bcast_S16x1x100x2_S16x8400x100x2_0_1_2_3 : (⟨S16x1x100x2, .f32⟩ : BufTy).Contents (Elt F) → (⟨S16x8400x100x2, .f32⟩ : BufTy).Contents (Elt F)),
    binary main_v63 main_v64 main_v65 (minimumf : (⟨S16x8400x100x2, .f32⟩ : BufTy).Contents (Elt F) → (⟨S16x8400x100x2, .f32⟩ : BufTy).Contents (Elt F) → (⟨S16x8400x100x2, .f32⟩ : BufTy).Contents (Elt F)),
    unary main_v7 main_v66 ((extractStridedSlice S16x8400x2 ![0, 0, 2] · slices_S16x8400x4_S16x8400x2_0_0_2) : (⟨S16x8400x4, .f32⟩ : BufTy).Contents (Elt F) → (⟨S16x8400x2, .f32⟩ : BufTy).Contents (Elt F)),
    unary main_v66 main_v67 (broadcastInDim S16x8400x1x2 ![0, 1, 3] bcast_S16x8400x2_S16x8400x1x2_0_1_3 : (⟨S16x8400x2, .f32⟩ : BufTy).Contents (Elt F) → (⟨S16x8400x1x2, .f32⟩ : BufTy).Contents (Elt F)),
    unary main_v8 main_v68 ((extractStridedSlice S16x100x2 ![0, 0, 2] · slices_S16x100x4_S16x100x2_0_0_2) : (⟨S16x100x4, .f32⟩ : BufTy).Contents (Elt F) → (⟨S16x100x2, .f32⟩ : BufTy).Contents (Elt F)),
    unary main_v68 main_v69 (broadcastInDim S16x1x100x2 ![0, 2, 3] bcast_S16x100x2_S16x1x100x2_0_2_3 : (⟨S16x100x2, .f32⟩ : BufTy).Contents (Elt F) → (⟨S16x1x100x2, .f32⟩ : BufTy).Contents (Elt F)),
    unary main_v67 main_v70 (broadcastInDim S16x8400x100x2 ![0, 1, 2, 3] bcast_S16x8400x1x2_S16x8400x100x2_0_1_2_3 : (⟨S16x8400x1x2, .f32⟩ : BufTy).Contents (Elt F) → (⟨S16x8400x100x2, .f32⟩ : BufTy).Contents (Elt F)),
    unary main_v69 main_v71 (broadcastInDim S16x8400x100x2 ![0, 1, 2, 3] bcast_S16x1x100x2_S16x8400x100x2_0_1_2_3 : (⟨S16x1x100x2, .f32⟩ : BufTy).Contents (Elt F) → (⟨S16x8400x100x2, .f32⟩ : BufTy).Contents (Elt F)),
    binary main_v70 main_v71 main_v72 (maximumf : (⟨S16x8400x100x2, .f32⟩ : BufTy).Contents (Elt F) → (⟨S16x8400x100x2, .f32⟩ : BufTy).Contents (Elt F) → (⟨S16x8400x100x2, .f32⟩ : BufTy).Contents (Elt F)),
    binary main_v72 main_v65 main_v73 (subf : (⟨S16x8400x100x2, .f32⟩ : BufTy).Contents (Elt F) → (⟨S16x8400x100x2, .f32⟩ : BufTy).Contents (Elt F) → (⟨S16x8400x100x2, .f32⟩ : BufTy).Contents (Elt F)),
    nullary main_c_0 (constantI S_ 32 0#32),
    TRef.unary (TRef.of (T := ⟨S_, .i32⟩) main_c_0) (TRef.of (T := ⟨S_, .f32⟩) main_call1_v0) (sitofp .f32),
    TRef.unary (TRef.of (T := ⟨S_, .f32⟩) main_call1_v0) (TRef.of (T := ⟨S16x8400x100x2, .f32⟩) main_call1_v1) (broadcastInDim S16x8400x100x2 ![] bcast_S_S16x8400x100x2),
    TRef.binary (TRef.of (T := ⟨S16x8400x100x2, .f32⟩) main_call1_v1) (TRef.of (T := ⟨S16x8400x100x2, .f32⟩) main_v73) (TRef.of (T := ⟨S16x8400x100x2, .f32⟩) main_v74) maximumf,
    unary main_v74 main_v75 ((extractStridedSlice S16x8400x100x1 ![0, 0, 0, 0] · slices_S16x8400x100x2_S16x8400x100x1_0_0_0_0) : (⟨S16x8400x100x2, .f32⟩ : BufTy).Contents (Elt F) → (⟨S16x8400x100x1, .f32⟩ : BufTy).Contents (Elt F)),
    reshape main_v75 main_v76 (rfl : (.f32 : EltTy) = .f32) shapeCasts_S16x8400x100x1_S16x8400x100,
    unary main_v74 main_v77 ((extractStridedSlice S16x8400x100x1 ![0, 0, 0, 1] · slices_S16x8400x100x2_S16x8400x100x1_0_0_0_1) : (⟨S16x8400x100x2, .f32⟩ : BufTy).Contents (Elt F) → (⟨S16x8400x100x1, .f32⟩ : BufTy).Contents (Elt F)),
    reshape main_v77 main_v78 (rfl : (.f32 : EltTy) = .f32) shapeCasts_S16x8400x100x1_S16x8400x100,
    binary main_v76 main_v78 main_v79 (mulf : (⟨S16x8400x100, .f32⟩ : BufTy).Contents (Elt F) → (⟨S16x8400x100, .f32⟩ : BufTy).Contents (Elt F) → (⟨S16x8400x100, .f32⟩ : BufTy).Contents (Elt F)),
    binary main_v79 main_v57 main_v80 (subf : (⟨S16x8400x100, .f32⟩ : BufTy).Contents (Elt F) → (⟨S16x8400x100, .f32⟩ : BufTy).Contents (Elt F) → (⟨S16x8400x100, .f32⟩ : BufTy).Contents (Elt F)),
    binary main_v80 main_v79 main_v81 (Host.divf : (⟨S16x8400x100, .f32⟩ : BufTy).Contents (Elt F) → (⟨S16x8400x100, .f32⟩ : BufTy).Contents (Elt F) → (⟨S16x8400x100, .f32⟩ : BufTy).Contents (Elt F)),
    binary main_v58 main_v81 main_v82 (subf : (⟨S16x8400x100, .f32⟩ : BufTy).Contents (Elt F) → (⟨S16x8400x100, .f32⟩ : BufTy).Contents (Elt F) → (⟨S16x8400x100, .f32⟩ : BufTy).Contents (Elt F)),
    nullary main_cst (constant S_ .f32 0xFF800000#32),
    binary main_v82 main_cst main_v83 ((fun x v => Host.reduce FloatOps.maximumf x v reducesTo_S16x8400x100_S16x100_d1 h_S_) : (⟨S16x8400x100, .f32⟩ : BufTy).Contents (Elt F) → (⟨S_, .f32⟩ : BufTy).Contents (Elt F) → (⟨S16x100, .f32⟩ : BufTy).Contents (Elt F)),
    TRef.nullary (TRef.of (T := ⟨S16x8400x100, .i32⟩) main_call2_v0) (iotaInDim S16x8400x100 32 1),
    TRef.nullary (TRef.of (T := ⟨S_, .f32⟩) main_call2_cst) (constant S_ .f32 0xFF800000#32),
    TRef.nullary (TRef.of (T := ⟨S_, .i32⟩) main_call2_c) (constantI S_ 32 0#32) ]

/-- @main's operations 93 … 122 of 236 (window `main_part1`). -/
abbrev ops_part1_1 : List (HloOp τ sig (Elt F)) :=
  [ TRef.quaternary (TRef.of (T := ⟨S16x8400x100, .f32⟩) main_v82) (TRef.of (T := ⟨S16x8400x100, .i32⟩) main_call2_v0) (TRef.of (T := ⟨S_, .f32⟩) main_call2_cst) (TRef.of (T := ⟨S_, .i32⟩) main_call2_c) (TRef.of (T := ⟨S16x100, .f32⟩) main_call2_v1_0) (fun x y u v j => (Host.argReduce reducer_argmax_f32_i32 x y u v reducesTo_S16x8400x100_S16x100_d1 h_S_ j).1),
    TRef.quaternary (TRef.of (T := ⟨S16x8400x100, .f32⟩) main_v82) (TRef.of (T := ⟨S16x8400x100, .i32⟩) main_call2_v0) (TRef.of (T := ⟨S_, .f32⟩) main_call2_cst) (TRef.of (T := ⟨S_, .i32⟩) main_call2_c) (TRef.of (T := ⟨S16x100, .i32⟩) main_v84) (fun x y u v j => (Host.argReduce reducer_argmax_f32_i32 x y u v reducesTo_S16x8400x100_S16x100_d1 h_S_ j).2),
    nullary main_cst_1 (constant S_ .f32 0x3F800000#32),
    unary main_cst_1 main_v85 (broadcastInDim S16x100 ![] bcast_S_S16x100 : (⟨S_, .f32⟩ : BufTy).Contents (Elt F) → (⟨S16x100, .f32⟩ : BufTy).Contents (Elt F)),
    binary main_v85 main_v83 main_v86 (subf : (⟨S16x100, .f32⟩ : BufTy).Contents (Elt F) → (⟨S16x100, .f32⟩ : BufTy).Contents (Elt F) → (⟨S16x100, .f32⟩ : BufTy).Contents (Elt F)),
    binary main_v86 main_v6 main_v87 (mulf : (⟨S16x100, .f32⟩ : BufTy).Contents (Elt F) → (⟨S16x100, .f32⟩ : BufTy).Contents (Elt F) → (⟨S16x100, .f32⟩ : BufTy).Contents (Elt F)),
    nullary main_cst_2 (constant S_ .f32 0x00000000#32),
    binary main_v87 main_cst_2 main_v88 ((fun x v => Host.reduceAdd x v reducesTo_S16x100_S16_d1 h_S_) : (⟨S16x100, .f32⟩ : BufTy).Contents (Elt F) → (⟨S_, .f32⟩ : BufTy).Contents (Elt F) → (⟨S16, .f32⟩ : BufTy).Contents (Elt F)),
    nullary main_cst_3 (constant S_ .f32 0x00000000#32),
    binary main_v88 main_cst_3 main_v89 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_4 (constant S_ .f32 0x41800000#32),
    binary main_v89 main_cst_4 main_v90 (Host.divf : (⟨S_, .f32⟩ : BufTy).Contents (Elt F) → (⟨S_, .f32⟩ : BufTy).Contents (Elt F) → (⟨S_, .f32⟩ : BufTy).Contents (Elt F)),
    nullary main_cst_5 (constant S_ .f32 0x40A00000#32),
    binary main_v90 main_cst_5 main_v91 (mulf : (⟨S_, .f32⟩ : BufTy).Contents (Elt F) → (⟨S_, .f32⟩ : BufTy).Contents (Elt F) → (⟨S_, .f32⟩ : BufTy).Contents (Elt F)),
    nullary main_v92 (iotaInDim S16 32 0),
    nullary main_c_6 (constantI S_ 32 8400#32),
    unary main_c_6 main_v93 (broadcastInDim S16 ![] bcast_S_S16 : (⟨S_, .i32⟩ : BufTy).Contents (Elt F) → (⟨S16, .i32⟩ : BufTy).Contents (Elt F)),
    binary main_v92 main_v93 main_v94 (muli : (⟨S16, .i32⟩ : BufTy).Contents (Elt F) → (⟨S16, .i32⟩ : BufTy).Contents (Elt F) → (⟨S16, .i32⟩ : BufTy).Contents (Elt F)),
    unary main_v94 main_v95 (broadcastInDim S16x1 ![0] bcast_S16_S16x1_0 : (⟨S16, .i32⟩ : BufTy).Contents (Elt F) → (⟨S16x1, .i32⟩ : BufTy).Contents (Elt F)),
    unary main_v95 main_v96 (broadcastInDim S16x100 ![0, 1] bcast_S16x1_S16x100_0_1 : (⟨S16x1, .i32⟩ : BufTy).Contents (Elt F) → (⟨S16x100, .i32⟩ : BufTy).Contents (Elt F)),
    binary main_v84 main_v96 main_v97 (addi : (⟨S16x100, .i32⟩ : BufTy).Contents (Elt F) → (⟨S16x100, .i32⟩ : BufTy).Contents (Elt F) → (⟨S16x100, .i32⟩ : BufTy).Contents (Elt F)),
    nullary main_c_7 (constantI S_ 32 134400#32),
    TRef.unary (TRef.of (T := ⟨S_, .i32⟩) main_c_7) (TRef.of (T := ⟨S_, .i32⟩) main_call3_v0) id ]

/-- @main's operations 123 … 135 of 236 (window `main_part1`). -/
abbrev ops_part1_2 : List (HloOp τ sig (Elt F)) :=
  [ TRef.unary (TRef.of (T := ⟨S_, .i32⟩) main_call3_v0) (TRef.of (T := ⟨S16x100, .i32⟩) main_call3_v1) (broadcastInDim S16x100 ![] bcast_S_S16x100),
    TRef.ternary (TRef.of (T := ⟨S16x100, .i1⟩) main_v5) (TRef.of (T := ⟨S16x100, .i32⟩) main_v97) (TRef.of (T := ⟨S16x100, .i32⟩) main_call3_v1) (TRef.of (T := ⟨S16x100, .i32⟩) main_v98) select,
    nullary main_cst_8 (constant S_ .f32 0x00000000#32),
    unary main_cst_8 main_v99 (broadcastInDim S134400 ![] bcast_S_S134400 : (⟨S_, .f32⟩ : BufTy).Contents (Elt F) → (⟨S134400, .f32⟩ : BufTy).Contents (Elt F)),
    reshape main_v98 main_v100 (rfl : (.i32 : EltTy) = .i32) shapeCasts_S16x100_S1600,
    nullary main_c_9 (constantI S_ 32 0#32),
    unary main_c_9 main_v101 (broadcastInDim S1600 ![] bcast_S_S1600 : (⟨S_, .i32⟩ : BufTy).Contents (Elt F) → (⟨S1600, .i32⟩ : BufTy).Contents (Elt F)),
    binary main_v100 main_v101 main_v102 (cmpi .slt : (⟨S1600, .i32⟩ : BufTy).Contents (Elt F) → (⟨S1600, .i32⟩ : BufTy).Contents (Elt F) → (⟨S1600, .i1⟩ : BufTy).Contents (Elt F)),
    nullary main_c_10 (constantI S_ 32 134400#32),
    unary main_c_10 main_v103 (broadcastInDim S1600 ![] bcast_S_S1600 : (⟨S_, .i32⟩ : BufTy).Contents (Elt F) → (⟨S1600, .i32⟩ : BufTy).Contents (Elt F)),
    binary main_v100 main_v103 main_v104 (addi : (⟨S1600, .i32⟩ : BufTy).Contents (Elt F) → (⟨S1600, .i32⟩ : BufTy).Contents (Elt F) → (⟨S1600, .i32⟩ : BufTy).Contents (Elt F)),
    ternary main_v102 main_v104 main_v100 main_v105 (select : (⟨S1600, .i1⟩ : BufTy).Contents (Elt F) → (⟨S1600, .i32⟩ : BufTy).Contents (Elt F) → (⟨S1600, .i32⟩ : BufTy).Contents (Elt F) → (⟨S1600, .i32⟩ : BufTy).Contents (Elt F)),
    unary main_v105 main_v106 (broadcastInDim S1600x1 ![0] bcast_S1600_S1600x1_0 : (⟨S1600, .i32⟩ : BufTy).Contents (Elt F) → (⟨S1600x1, .i32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 136 … 165 of 236 (window `main_part2`). -/
abbrev ops_part2_0 : List (HloOp τ sig (Elt F)) :=
  [ nullary main_cst_11 (constant S_ .f32 0x3F800000#32),
    unary main_cst_11 main_v107 (broadcastInDim S1600 ![] bcast_S_S1600 : (⟨S_, .f32⟩ : BufTy).Contents (Elt F) → (⟨S1600, .f32⟩ : BufTy).Contents (Elt F)),
    ternary main_v99 main_v106 main_v107 main_v108 ((fun x i u => Host.scatter scatter_S134400_S1600x1_S1600_n_0_0_1 (fun _ b => b) x i u) : (⟨S134400, .f32⟩ : BufTy).Contents (Elt F) → (⟨S1600x1, .i32⟩ : BufTy).Contents (Elt F) → (⟨S1600, .f32⟩ : BufTy).Contents (Elt F) → (⟨S134400, .f32⟩ : BufTy).Contents (Elt F)),
    reshape main_v108 main_v109 (rfl : (.f32 : EltTy) = .f32) shapeCasts_S134400_S16x8400,
    unary main_arg0 main_v110 ((extractStridedSlice S16x8400x1 ![0, 0, 4] · slices_S16x8400x85_S16x8400x1_0_0_4) : (⟨S16x8400x85, .f32⟩ : BufTy).Contents (Elt F) → (⟨S16x8400x1, .f32⟩ : BufTy).Contents (Elt F)),
    reshape main_v110 main_v111 (rfl : (.f32 : EltTy) = .f32) shapeCasts_S16x8400x1_S16x8400,
    nullary main_cst_12 (constant S_ .f32 0x3F800000#32),
    unary main_cst_12 main_v112 (broadcastInDim S16x8400 ![] bcast_S_S16x8400 : (⟨S_, .f32⟩ : BufTy).Contents (Elt F) → (⟨S16x8400, .f32⟩ : BufTy).Contents (Elt F)),
    nullary main_cst_13 (constant S_ .f32 0x00000000#32),
    unary main_cst_13 main_v113 (broadcastInDim S16x8400 ![] bcast_S_S16x8400 : (⟨S_, .f32⟩ : BufTy).Contents (Elt F) → (⟨S16x8400, .f32⟩ : BufTy).Contents (Elt F)),
    binary main_v111 main_v113 main_v114 (maximumf : (⟨S16x8400, .f32⟩ : BufTy).Contents (Elt F) → (⟨S16x8400, .f32⟩ : BufTy).Contents (Elt F) → (⟨S16x8400, .f32⟩ : BufTy).Contents (Elt F)),
    binary main_v111 main_v112 main_v115 (mulf : (⟨S16x8400, .f32⟩ : BufTy).Contents (Elt F) → (⟨S16x8400, .f32⟩ : BufTy).Contents (Elt F) → (⟨S16x8400, .f32⟩ : BufTy).Contents (Elt F)),
    binary main_v114 main_v115 main_v116 (subf : (⟨S16x8400, .f32⟩ : BufTy).Contents (Elt F) → (⟨S16x8400, .f32⟩ : BufTy).Contents (Elt F) → (⟨S16x8400, .f32⟩ : BufTy).Contents (Elt F)),
    unary main_v111 main_v117 (Host.absf : (⟨S16x8400, .f32⟩ : BufTy).Contents (Elt F) → (⟨S16x8400, .f32⟩ : BufTy).Contents (Elt F)),
    unary main_v117 main_v118 (Host.negf : (⟨S16x8400, .f32⟩ : BufTy).Contents (Elt F) → (⟨S16x8400, .f32⟩ : BufTy).Contents (Elt F)),
    unary main_v118 main_v119 (Host.exp : (⟨S16x8400, .f32⟩ : BufTy).Contents (Elt F) → (⟨S16x8400, .f32⟩ : BufTy).Contents (Elt F)),
    unary main_v119 main_v120 (Host.log1p : (⟨S16x8400, .f32⟩ : BufTy).Contents (Elt F) → (⟨S16x8400, .f32⟩ : BufTy).Contents (Elt F)),
    binary main_v116 main_v120 main_v121 (addf : (⟨S16x8400, .f32⟩ : BufTy).Contents (Elt F) → (⟨S16x8400, .f32⟩ : BufTy).Contents (Elt F) → (⟨S16x8400, .f32⟩ : BufTy).Contents (Elt F)),
    binary main_v121 main_v109 main_v122 (mulf : (⟨S16x8400, .f32⟩ : BufTy).Contents (Elt F) → (⟨S16x8400, .f32⟩ : BufTy).Contents (Elt F) → (⟨S16x8400, .f32⟩ : BufTy).Contents (Elt F)),
    nullary main_cst_14 (constant S_ .f32 0x00000000#32),
    binary main_v122 main_cst_14 main_v123 ((fun x v => Host.reduceAdd x v reducesTo_S16x8400_S16_d1 h_S_) : (⟨S16x8400, .f32⟩ : BufTy).Contents (Elt F) → (⟨S_, .f32⟩ : BufTy).Contents (Elt F) → (⟨S16, .f32⟩ : BufTy).Contents (Elt F)),
    nullary main_cst_15 (constant S_ .f32 0x00000000#32),
    binary main_v123 main_cst_15 main_v124 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_16 (constant S_ .f32 0x41800000#32),
    binary main_v124 main_cst_16 main_v125 (Host.divf : (⟨S_, .f32⟩ : BufTy).Contents (Elt F) → (⟨S_, .f32⟩ : BufTy).Contents (Elt F) → (⟨S_, .f32⟩ : BufTy).Contents (Elt F)),
    nullary main_cst_17 (constant S_ .f32 0x40000000#32),
    binary main_v125 main_cst_17 main_v126 (mulf : (⟨S_, .f32⟩ : BufTy).Contents (Elt F) → (⟨S_, .f32⟩ : BufTy).Contents (Elt F) → (⟨S_, .f32⟩ : BufTy).Contents (Elt F)),
    nullary main_cst_18 (constant S_ .f32 0x00000000#32),
    unary main_cst_18 main_v127 (broadcastInDim S16x8400 ![] bcast_S_S16x8400 : (⟨S_, .f32⟩ : BufTy).Contents (Elt F) → (⟨S16x8400, .f32⟩ : BufTy).Contents (Elt F)),
    nullary main_cst_19 (constant S_ .f32 0x00000000#32) ]

/-- @main's operations 166 … 195 of 236 (window `main_part2`). -/
abbrev ops_part2_1 : List (HloOp τ sig (Elt F)) :=
  [ unary main_cst_19 main_v128 (broadcastInDim S16x8400 ![] bcast_S_S16x8400 : (⟨S_, .f32⟩ : BufTy).Contents (Elt F) → (⟨S16x8400, .f32⟩ : BufTy).Contents (Elt F)),
    binary main_v111 main_v128 main_v129 (maximumf : (⟨S16x8400, .f32⟩ : BufTy).Contents (Elt F) → (⟨S16x8400, .f32⟩ : BufTy).Contents (Elt F) → (⟨S16x8400, .f32⟩ : BufTy).Contents (Elt F)),
    binary main_v111 main_v127 main_v130 (mulf : (⟨S16x8400, .f32⟩ : BufTy).Contents (Elt F) → (⟨S16x8400, .f32⟩ : BufTy).Contents (Elt F) → (⟨S16x8400, .f32⟩ : BufTy).Contents (Elt F)),
    binary main_v129 main_v130 main_v131 (subf : (⟨S16x8400, .f32⟩ : BufTy).Contents (Elt F) → (⟨S16x8400, .f32⟩ : BufTy).Contents (Elt F) → (⟨S16x8400, .f32⟩ : BufTy).Contents (Elt F)),
    unary main_v111 main_v132 (Host.absf : (⟨S16x8400, .f32⟩ : BufTy).Contents (Elt F) → (⟨S16x8400, .f32⟩ : BufTy).Contents (Elt F)),
    unary main_v132 main_v133 (Host.negf : (⟨S16x8400, .f32⟩ : BufTy).Contents (Elt F) → (⟨S16x8400, .f32⟩ : BufTy).Contents (Elt F)),
    unary main_v133 main_v134 (Host.exp : (⟨S16x8400, .f32⟩ : BufTy).Contents (Elt F) → (⟨S16x8400, .f32⟩ : BufTy).Contents (Elt F)),
    unary main_v134 main_v135 (Host.log1p : (⟨S16x8400, .f32⟩ : BufTy).Contents (Elt F) → (⟨S16x8400, .f32⟩ : BufTy).Contents (Elt F)),
    binary main_v131 main_v135 main_v136 (addf : (⟨S16x8400, .f32⟩ : BufTy).Contents (Elt F) → (⟨S16x8400, .f32⟩ : BufTy).Contents (Elt F) → (⟨S16x8400, .f32⟩ : BufTy).Contents (Elt F)),
    nullary main_cst_20 (constant S_ .f32 0x3F800000#32),
    unary main_cst_20 main_v137 (broadcastInDim S16x8400 ![] bcast_S_S16x8400 : (⟨S_, .f32⟩ : BufTy).Contents (Elt F) → (⟨S16x8400, .f32⟩ : BufTy).Contents (Elt F)),
    binary main_v137 main_v109 main_v138 (subf : (⟨S16x8400, .f32⟩ : BufTy).Contents (Elt F) → (⟨S16x8400, .f32⟩ : BufTy).Contents (Elt F) → (⟨S16x8400, .f32⟩ : BufTy).Contents (Elt F)),
    binary main_v136 main_v138 main_v139 (mulf : (⟨S16x8400, .f32⟩ : BufTy).Contents (Elt F) → (⟨S16x8400, .f32⟩ : BufTy).Contents (Elt F) → (⟨S16x8400, .f32⟩ : BufTy).Contents (Elt F)),
    nullary main_cst_21 (constant S_ .f32 0x00000000#32),
    binary main_v139 main_cst_21 main_v140 ((fun x v => Host.reduceAdd x v reducesTo_S16x8400_S16_d1 h_S_) : (⟨S16x8400, .f32⟩ : BufTy).Contents (Elt F) → (⟨S_, .f32⟩ : BufTy).Contents (Elt F) → (⟨S16, .f32⟩ : BufTy).Contents (Elt F)),
    nullary main_cst_22 (constant S_ .f32 0x00000000#32),
    binary main_v140 main_cst_22 main_v141 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_23 (constant S_ .f32 0x41800000#32),
    binary main_v141 main_cst_23 main_v142 (Host.divf : (⟨S_, .f32⟩ : BufTy).Contents (Elt F) → (⟨S_, .f32⟩ : BufTy).Contents (Elt F) → (⟨S_, .f32⟩ : BufTy).Contents (Elt F)),
    nullary main_cst_24 (constant S_ .f32 0x3F000000#32),
    binary main_v142 main_cst_24 main_v143 (mulf : (⟨S_, .f32⟩ : BufTy).Contents (Elt F) → (⟨S_, .f32⟩ : BufTy).Contents (Elt F) → (⟨S_, .f32⟩ : BufTy).Contents (Elt F)),
    unary main_arg0 main_v144 ((extractStridedSlice S16x8400x80 ![0, 0, 5] · slices_S16x8400x85_S16x8400x80_0_0_5) : (⟨S16x8400x85, .f32⟩ : BufTy).Contents (Elt F) → (⟨S16x8400x80, .f32⟩ : BufTy).Contents (Elt F)),
    unary main_v84 main_v145 (broadcastInDim S16x100x1 ![0, 1] bcast_S16x100_S16x100x1_0_1 : (⟨S16x100, .i32⟩ : BufTy).Contents (Elt F) → (⟨S16x100x1, .i32⟩ : BufTy).Contents (Elt F)),
    TRef.nullary (TRef.of (T := ⟨S_, .i32⟩) main_call4_c) (constantI S_ 32 0#32),
    TRef.unary (TRef.of (T := ⟨S_, .i32⟩) main_call4_c) (TRef.of (T := ⟨S16x100x1, .i32⟩) main_call4_v0) (broadcastInDim S16x100x1 ![] bcast_S_S16x100x1),
    TRef.binary (TRef.of (T := ⟨S16x100x1, .i32⟩) main_v145) (TRef.of (T := ⟨S16x100x1, .i32⟩) main_call4_v0) (TRef.of (T := ⟨S16x100x1, .i1⟩) main_call4_v1) (cmpi .slt),
    TRef.nullary (TRef.of (T := ⟨S_, .i32⟩) main_call4_c_0) (constantI S_ 32 8400#32),
    TRef.unary (TRef.of (T := ⟨S_, .i32⟩) main_call4_c_0) (TRef.of (T := ⟨S16x100x1, .i32⟩) main_call4_v2) (broadcastInDim S16x100x1 ![] bcast_S_S16x100x1),
    TRef.binary (TRef.of (T := ⟨S16x100x1, .i32⟩) main_v145) (TRef.of (T := ⟨S16x100x1, .i32⟩) main_call4_v2) (TRef.of (T := ⟨S16x100x1, .i32⟩) main_call4_v3) addi,
    TRef.ternary (TRef.of (T := ⟨S16x100x1, .i1⟩) main_call4_v1) (TRef.of (T := ⟨S16x100x1, .i32⟩) main_call4_v3) (TRef.of (T := ⟨S16x100x1, .i32⟩) main_v145) (TRef.of (T := ⟨S16x100x1, .i32⟩) main_call4_v4) select ]

/-- @main's operations 196 … 216 of 236 (window `main_part2`). -/
abbrev ops_part2_2 : List (HloOp τ sig (Elt F)) :=
  [ TRef.nullary (TRef.of (T := ⟨S1, .i32⟩) main_call4_c_1) (constantI S1 32 8399#32),
    TRef.nullary (TRef.of (T := ⟨S_, .i32⟩) main_call4_c_2) (constantI S_ 32 0#32),
    TRef.unary (TRef.of (T := ⟨S_, .i32⟩) main_call4_c_2) (TRef.of (T := ⟨S16x100x1, .i32⟩) main_call4_v5) (broadcastInDim S16x100x1 ![] bcast_S_S16x100x1),
    TRef.binary (TRef.of (T := ⟨S16x100x1, .i32⟩) main_call4_v4) (TRef.of (T := ⟨S16x100x1, .i32⟩) main_call4_v5) (TRef.of (T := ⟨S16x100x1, .i1⟩) main_call4_v6) (cmpi .sge),
    TRef.unary (TRef.of (T := ⟨S1, .i32⟩) main_call4_c_1) (TRef.of (T := ⟨S1x1x1, .i32⟩) main_call4_v7) (broadcastInDim S1x1x1 ![2] bcast_S1_S1x1x1_2),
    TRef.unary (TRef.of (T := ⟨S1x1x1, .i32⟩) main_call4_v7) (TRef.of (T := ⟨S16x100x1, .i32⟩) main_call4_v8) (broadcastInDim S16x100x1 ![0, 1, 2] bcast_S1x1x1_S16x100x1_0_1_2),
    TRef.binary (TRef.of (T := ⟨S16x100x1, .i32⟩) main_call4_v4) (TRef.of (T := ⟨S16x100x1, .i32⟩) main_call4_v8) (TRef.of (T := ⟨S16x100x1, .i1⟩) main_call4_v9) (cmpi .sle),
    TRef.binary (TRef.of (T := ⟨S16x100x1, .i1⟩) main_call4_v6) (TRef.of (T := ⟨S16x100x1, .i1⟩) main_call4_v9) (TRef.of (T := ⟨S16x100x1, .i1⟩) main_call4_v10) andi,
    TRef.nullary (TRef.of (T := ⟨S_, .i1⟩) main_call4_c_3) (constantI S_ 1 1#1),
    TRef.binary (TRef.of (T := ⟨S16x100x1, .i1⟩) main_call4_v10) (TRef.of (T := ⟨S_, .i1⟩) main_call4_c_3) (TRef.of (T := ⟨S16x100, .i1⟩) main_call4_v11) (fun x v => Host.reduce IntOp.andi x v reducesTo_S16x100x1_S16x100_d2 h_S_),
    TRef.binary (TRef.of (T := ⟨S16x8400x80, .f32⟩) main_v144) (TRef.of (T := ⟨S16x100x1, .i32⟩) main_call4_v4) (TRef.of (T := ⟨S16x100x80, .f32⟩) main_call4_v12) (fun x i => Host.gather gather_S16x8400x80_S16x100x1_S16x100x80_2_1_0_0_1_2_1180 x i),
    TRef.unary (TRef.of (T := ⟨S16x100, .i1⟩) main_call4_v11) (TRef.of (T := ⟨S16x100x80, .i1⟩) main_call4_v13) (broadcastInDim S16x100x80 ![0, 1] bcast_S16x100_S16x100x80_0_1),
    TRef.nullary (TRef.of (T := ⟨S_, .f32⟩) main_call4_cst) (constant S_ .f32 0x7FC00000#32),
    TRef.unary (TRef.of (T := ⟨S_, .f32⟩) main_call4_cst) (TRef.of (T := ⟨S16x100x80, .f32⟩) main_call4_v14) (broadcastInDim S16x100x80 ![] bcast_S_S16x100x80),
    TRef.ternary (TRef.of (T := ⟨S16x100x80, .i1⟩) main_call4_v13) (TRef.of (T := ⟨S16x100x80, .f32⟩) main_call4_v12) (TRef.of (T := ⟨S16x100x80, .f32⟩) main_call4_v14) (TRef.of (T := ⟨S16x100x80, .f32⟩) main_v146) select,
    unary main_arg1 main_v147 ((extractStridedSlice S16x100x80 ![0, 0, 5] · slices_S16x100x85_S16x100x80_0_0_5) : (⟨S16x100x85, .f32⟩ : BufTy).Contents (Elt F) → (⟨S16x100x80, .f32⟩ : BufTy).Contents (Elt F)),
    nullary main_cst_25 (constant S_ .f32 0x00000000#32),
    unary main_cst_25 main_v148 (broadcastInDim S16x100x80 ![] bcast_S_S16x100x80 : (⟨S_, .f32⟩ : BufTy).Contents (Elt F) → (⟨S16x100x80, .f32⟩ : BufTy).Contents (Elt F)),
    binary main_v146 main_v148 main_v149 (maximumf : (⟨S16x100x80, .f32⟩ : BufTy).Contents (Elt F) → (⟨S16x100x80, .f32⟩ : BufTy).Contents (Elt F) → (⟨S16x100x80, .f32⟩ : BufTy).Contents (Elt F)),
    binary main_v146 main_v147 main_v150 (mulf : (⟨S16x100x80, .f32⟩ : BufTy).Contents (Elt F) → (⟨S16x100x80, .f32⟩ : BufTy).Contents (Elt F) → (⟨S16x100x80, .f32⟩ : BufTy).Contents (Elt F)),
    binary main_v149 main_v150 main_v151 (subf : (⟨S16x100x80, .f32⟩ : BufTy).Contents (Elt F) → (⟨S16x100x80, .f32⟩ : BufTy).Contents (Elt F) → (⟨S16x100x80, .f32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 217 … 236 of 236 (window `main_part3`). -/
abbrev ops_part3 : List (HloOp τ sig (Elt F)) :=
  [ unary main_v146 main_v152 (Host.absf : (⟨S16x100x80, .f32⟩ : BufTy).Contents (Elt F) → (⟨S16x100x80, .f32⟩ : BufTy).Contents (Elt F)),
    unary main_v152 main_v153 (Host.negf : (⟨S16x100x80, .f32⟩ : BufTy).Contents (Elt F) → (⟨S16x100x80, .f32⟩ : BufTy).Contents (Elt F)),
    unary main_v153 main_v154 (Host.exp : (⟨S16x100x80, .f32⟩ : BufTy).Contents (Elt F) → (⟨S16x100x80, .f32⟩ : BufTy).Contents (Elt F)),
    unary main_v154 main_v155 (Host.log1p : (⟨S16x100x80, .f32⟩ : BufTy).Contents (Elt F) → (⟨S16x100x80, .f32⟩ : BufTy).Contents (Elt F)),
    binary main_v151 main_v155 main_v156 (addf : (⟨S16x100x80, .f32⟩ : BufTy).Contents (Elt F) → (⟨S16x100x80, .f32⟩ : BufTy).Contents (Elt F) → (⟨S16x100x80, .f32⟩ : BufTy).Contents (Elt F)),
    nullary main_cst_26 (constant S_ .f32 0x00000000#32),
    binary main_v156 main_cst_26 main_v157 ((fun x v => Host.reduceAdd x v reducesTo_S16x100x80_S16x100_d2 h_S_) : (⟨S16x100x80, .f32⟩ : BufTy).Contents (Elt F) → (⟨S_, .f32⟩ : BufTy).Contents (Elt F) → (⟨S16x100, .f32⟩ : BufTy).Contents (Elt F)),
    binary main_v157 main_v6 main_v158 (mulf : (⟨S16x100, .f32⟩ : BufTy).Contents (Elt F) → (⟨S16x100, .f32⟩ : BufTy).Contents (Elt F) → (⟨S16x100, .f32⟩ : BufTy).Contents (Elt F)),
    nullary main_cst_27 (constant S_ .f32 0x00000000#32),
    binary main_v6 main_cst_27 main_v159 ((fun x v => Host.reduceAdd x v reducesTo_S16x100_S_d0_1 h_S_) : (⟨S16x100, .f32⟩ : BufTy).Contents (Elt F) → (⟨S_, .f32⟩ : BufTy).Contents (Elt F) → (⟨S_, .f32⟩ : BufTy).Contents (Elt F)),
    nullary main_cst_28 (constant S_ .f32 0x3F800000#32),
    binary main_v159 main_cst_28 main_v160 (maximumf : (⟨S_, .f32⟩ : BufTy).Contents (Elt F) → (⟨S_, .f32⟩ : BufTy).Contents (Elt F) → (⟨S_, .f32⟩ : BufTy).Contents (Elt F)),
    nullary main_cst_29 (constant S_ .f32 0x00000000#32),
    binary main_v158 main_cst_29 main_v161 ((fun x v => Host.reduceAdd x v reducesTo_S16x100_S_d0_1 h_S_) : (⟨S16x100, .f32⟩ : BufTy).Contents (Elt F) → (⟨S_, .f32⟩ : BufTy).Contents (Elt F) → (⟨S_, .f32⟩ : BufTy).Contents (Elt F)),
    binary main_v161 main_v160 main_v162 (Host.divf : (⟨S_, .f32⟩ : BufTy).Contents (Elt F) → (⟨S_, .f32⟩ : BufTy).Contents (Elt F) → (⟨S_, .f32⟩ : BufTy).Contents (Elt F)),
    nullary main_cst_30 (constant S_ .f32 0x3F800000#32),
    binary main_v162 main_cst_30 main_v163 (mulf : (⟨S_, .f32⟩ : BufTy).Contents (Elt F) → (⟨S_, .f32⟩ : BufTy).Contents (Elt F) → (⟨S_, .f32⟩ : BufTy).Contents (Elt F)),
    binary main_v91 main_v126 main_v164 (addf : (⟨S_, .f32⟩ : BufTy).Contents (Elt F) → (⟨S_, .f32⟩ : BufTy).Contents (Elt F) → (⟨S_, .f32⟩ : BufTy).Contents (Elt F)),
    binary main_v164 main_v143 main_v165 (addf : (⟨S_, .f32⟩ : BufTy).Contents (Elt F) → (⟨S_, .f32⟩ : BufTy).Contents (Elt F) → (⟨S_, .f32⟩ : BufTy).Contents (Elt F)),
    binary main_v165 main_v163 main_v166 (addf : (⟨S_, .f32⟩ : BufTy).Contents (Elt F) → (⟨S_, .f32⟩ : BufTy).Contents (Elt F) → (⟨S_, .f32⟩ : BufTy).Contents (Elt F)) ]

/-- @main's 236 operations, in order (a called function's operations stand in its call's place, spelt `TRef.…`). -/
abbrev ops : List (HloOp τ sig (Elt F)) :=
  ops_part0 ++ (ops_part1 ++ (ops_part2 ++ (ops_part3)))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
theorem main_part3_eq (c : Dev nD) : main_part3 (F := F) c = seq ops_part3 := rfl
set_option maxRecDepth 8192 in
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., binary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., binary_bufs_sub .., binary_bufs_sub .., binary_bufs_sub .., nullary_bufs_sub .., binary_bufs_sub .., nullary_bufs_sub .., nullary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨quaternary_bufs_sub .., quaternary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., nullary_bufs_sub .., unary_bufs_sub .., binary_bufs_sub .., unary_bufs_sub .., unary_bufs_sub .., binary_bufs_sub .., nullary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., ternary_bufs_sub .., nullary_bufs_sub .., unary_bufs_sub .., reshape_bufs_sub .., nullary_bufs_sub .., unary_bufs_sub .., binary_bufs_sub .., nullary_bufs_sub .., unary_bufs_sub .., binary_bufs_sub .., ternary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl⟩
set_option maxRecDepth 8192 in
theorem ops_part2_0_sub : (ops_part2_0 : List (HloOp τ sig (Elt F))).Forall fun op => op.bufs ⊆ tcRefs τ sig :=
  ⟨nullary_bufs_sub .., unary_bufs_sub .., ternary_bufs_sub .., reshape_bufs_sub .., unary_bufs_sub .., reshape_bufs_sub .., nullary_bufs_sub .., unary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., nullary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., binary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., ternary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., nullary_bufs_sub .., unary_bufs_sub .., binary_bufs_sub .., binary_bufs_sub .., binary_bufs_sub ..⟩
set_option maxRecDepth 8192 in
theorem ops_part2_2_fresh : (ops_part2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxRecDepth 8192 in
theorem ops_part3_sub : (ops_part3 : List (HloOp τ sig (Elt F))).Forall fun op => op.bufs ⊆ tcRefs τ sig :=
  ⟨unary_bufs_sub .., unary_bufs_sub .., unary_bufs_sub .., unary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., binary_bufs_sub .., binary_bufs_sub ..⟩
set_option maxRecDepth 8192 in
theorem ops_part3_fresh : (ops_part3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, List.mem_append, or_assoc] at h
    rcases h with h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_sub op h]
theorem ops_fresh : ∀ op ∈ (ops : List (HloOp τ sig (Elt F))), op.fresh = ∅ := fun op h => by
    simp only [ops, ops_part0, ops_part1, ops_part2, List.mem_append, or_assoc] at h
    rcases h with h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_fresh op h]

end Cert.ReferenceIdeal.Line

end
-- ==== Proof.RefRun.lean ====
module

public import proofs.«01_k».proof.Proof.RefOps
public import Idealize.ShloMosaic.Lib.StableHlo.Run
public import Idealize.ShloMosaic.Lib.Pipeline.Frame

@[expose] public section

/-! What the reference's operations leave in each buffer, and its run. -/

set_option Elab.async false

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The buffer `main_v5` after the line, as a term of the arguments. -/
def res_main_v5 (V0 : Valuation τ sig (Elt F)) : (Proc.devRef .tc main_v5 : DevRef τ sig).ty.Contents (Elt F) :=
  cmpi .slt (broadcastInDim S16x100 ![0, 1] bcast_S1x100_S16x100_0_1 (broadcastInDim S1x100 ![1] bcast_S100_S1x100_1 (iotaInDim S100 32 0))) (broadcastInDim S16x100 ![0, 1] bcast_S16x1_S16x100_0_1 (broadcastInDim S16x1 ![0] bcast_S16_S16x1_0 (V0 (Proc.devRef .tc main_arg2))))

set_option maxRecDepth 8192 in
/-- The buffer `main_v6` after the line, as a term of the arguments. -/
def res_main_v6 (V0 : Valuation τ sig (Elt F)) : (Proc.devRef .tc main_v6 : DevRef τ sig).ty.Contents (Elt F) :=
  uitofp .f32 (res_main_v5 V0)

set_option maxRecDepth 8192 in
/-- The buffer `main_v7` after the line, as a term of the arguments. -/
def res_main_v7 (V0 : Valuation τ sig (Elt F)) : (Proc.devRef .tc main_v7 : DevRef τ sig).ty.Contents (Elt F) :=
  extractStridedSlice S16x8400x4 ![0, 0, 0] (V0 (Proc.devRef .tc main_arg0)) slices_S16x8400x85_S16x8400x4_0_0_0

set_option maxRecDepth 8192 in
/-- The buffer `main_v8` after the line, as a term of the arguments. -/
def res_main_v8 (V0 : Valuation τ sig (Elt F)) : (Proc.devRef .tc main_v8 : DevRef τ sig).ty.Contents (Elt F) :=
  extractStridedSlice S16x100x4 ![0, 0, 0] (V0 (Proc.devRef .tc main_arg1)) slices_S16x100x85_S16x100x4_0_0_0

set_option maxRecDepth 8192 in
/-- The buffer `main_v46` after the line, as a term of the arguments. -/
def res_main_v46 (V0 : Valuation τ sig (Elt F)) : (Proc.devRef .tc main_v46 : DevRef τ sig).ty.Contents (Elt F) :=
  maximumf (broadcastInDim S16x8400x100x2 ![] bcast_S_S16x8400x100x2 (sitofp .f32 (constantI S_ 32 0#32))) (subf (minimumf (broadcastInDim S16x8400x100x2 ![0, 1, 2, 3] bcast_S16x8400x1x2_S16x8400x100x2_0_1_2_3 (broadcastInDim S16x8400x1x2 ![0, 1, 3] bcast_S16x8400x2_S16x8400x1x2_0_1_3 (extractStridedSlice S16x8400x2 ![0, 0, 2] (res_main_v7 V0) slices_S16x8400x4_S16x8400x2_0_0_2))) (broadcastInDim S16x8400x100x2 ![0, 1, 2, 3] bcast_S16x1x100x2_S16x8400x100x2_0_1_2_3 (broadcastInDim S16x1x100x2 ![0, 2, 3] bcast_S16x100x2_S16x1x100x2_0_2_3 (extractStridedSlice S16x100x2 ![0, 0, 2] (res_main_v8 V0) slices_S16x100x4_S16x100x2_0_0_2)))) (maximumf (broadcastInDim S16x8400x100x2 ![0, 1, 2, 3] bcast_S16x8400x1x2_S16x8400x100x2_0_1_2_3 (broadcastInDim S16x8400x1x2 ![0, 1, 3] bcast_S16x8400x2_S16x8400x1x2_0_1_3 (extractStridedSlice S16x8400x2 ![0, 0, 0] (res_main_v7 V0) slices_S16x8400x4_S16x8400x2_0_0_0))) (broadcastInDim S16x8400x100x2 ![0, 1, 2, 3] bcast_S16x1x100x2_S16x8400x100x2_0_1_2_3 (broadcastInDim S16x1x100x2 ![0, 2, 3] bcast_S16x100x2_S16x1x100x2_0_2_3 (extractStridedSlice S16x100x2 ![0, 0, 0] (res_main_v8 V0) slices_S16x100x4_S16x100x2_0_0_0)))))

set_option maxRecDepth 8192 in
/-- The buffer `main_v51` after the line, as a term of the arguments. -/
def res_main_v51 (V0 : Valuation τ sig (Elt F)) : (Proc.devRef .tc main_v51 : DevRef τ sig).ty.Contents (Elt F) :=
  mulf (shapeCast _ (extractStridedSlice S16x8400x100x1 ![0, 0, 0, 0] (res_main_v46 V0) slices_S16x8400x100x2_S16x8400x100x1_0_0_0_0) shapeCasts_S16x8400x100x1_S16x8400x100) (shapeCast _ (extractStridedSlice S16x8400x100x1 ![0, 0, 0, 1] (res_main_v46 V0) slices_S16x8400x100x2_S16x8400x100x1_0_0_0_1) shapeCasts_S16x8400x100x1_S16x8400x100)

set_option maxRecDepth 8192 in
/-- The buffer `main_v57` after the line, as a term of the arguments. -/
def res_main_v57 (V0 : Valuation τ sig (Elt F)) : (Proc.devRef .tc main_v57 : DevRef τ sig).ty.Contents (Elt F) :=
  subf (addf (broadcastInDim S16x8400x100 ![0, 1, 2] bcast_S16x8400x1_S16x8400x100_0_1_2 (broadcastInDim S16x8400x1 ![0, 1] bcast_S16x8400_S16x8400x1_0_1 (mulf (subf (shapeCast _ (extractStridedSlice S16x8400x1 ![0, 0, 2] (res_main_v7 V0) slices_S16x8400x4_S16x8400x1_0_0_2) shapeCasts_S16x8400x1_S16x8400) (shapeCast _ (extractStridedSlice S16x8400x1 ![0, 0, 0] (res_main_v7 V0) slices_S16x8400x4_S16x8400x1_0_0_0) shapeCasts_S16x8400x1_S16x8400)) (subf (shapeCast _ (extractStridedSlice S16x8400x1 ![0, 0, 3] (res_main_v7 V0) slices_S16x8400x4_S16x8400x1_0_0_3) shapeCasts_S16x8400x1_S16x8400) (shapeCast _ (extractStridedSlice S16x8400x1 ![0, 0, 1] (res_main_v7 V0) slices_S16x8400x4_S16x8400x1_0_0_1) shapeCasts_S16x8400x1_S16x8400))))) (broadcastInDim S16x8400x100 ![0, 1, 2] bcast_S16x1x100_S16x8400x100_0_1_2 (broadcastInDim S16x1x100 ![0, 2] bcast_S16x100_S16x1x100_0_2 (mulf (subf (shapeCast _ (extractStridedSlice S16x100x1 ![0, 0, 2] (res_main_v8 V0) slices_S16x100x4_S16x100x1_0_0_2) shapeCasts_S16x100x1_S16x100) (shapeCast _ (extractStridedSlice S16x100x1 ![0, 0, 0] (res_main_v8 V0) slices_S16x100x4_S16x100x1_0_0_0) shapeCasts_S16x100x1_S16x100)) (subf (shapeCast _ (extractStridedSlice S16x100x1 ![0, 0, 3] (res_main_v8 V0) slices_S16x100x4_S16x100x1_0_0_3) shapeCasts_S16x100x1_S16x100) (shapeCast _ (extractStridedSlice S16x100x1 ![0, 0, 1] (res_main_v8 V0) slices_S16x100x4_S16x100x1_0_0_1) shapeCasts_S16x100x1_S16x100)))))) (res_main_v51 V0)

set_option maxRecDepth 8192 in
/-- The buffer `main_v74` after the line, as a term of the arguments. -/
def res_main_v74 (V0 : Valuation τ sig (Elt F)) : (Proc.devRef .tc main_v74 : DevRef τ sig).ty.Contents (Elt F) :=
  maximumf (broadcastInDim S16x8400x100x2 ![] bcast_S_S16x8400x100x2 (sitofp .f32 (constantI S_ 32 0#32))) (subf (maximumf (broadcastInDim S16x8400x100x2 ![0, 1, 2, 3] bcast_S16x8400x1x2_S16x8400x100x2_0_1_2_3 (broadcastInDim S16x8400x1x2 ![0, 1, 3] bcast_S16x8400x2_S16x8400x1x2_0_1_3 (extractStridedSlice S16x8400x2 ![0, 0, 2] (res_main_v7 V0) slices_S16x8400x4_S16x8400x2_0_0_2))) (broadcastInDim S16x8400x100x2 ![0, 1, 2, 3] bcast_S16x1x100x2_S16x8400x100x2_0_1_2_3 (broadcastInDim S16x1x100x2 ![0, 2, 3] bcast_S16x100x2_S16x1x100x2_0_2_3 (extractStridedSlice S16x100x2 ![0, 0, 2] (res_main_v8 V0) slices_S16x100x4_S16x100x2_0_0_2)))) (minimumf (broadcastInDim S16x8400x100x2 ![0, 1, 2, 3] bcast_S16x8400x1x2_S16x8400x100x2_0_1_2_3 (broadcastInDim S16x8400x1x2 ![0, 1, 3] bcast_S16x8400x2_S16x8400x1x2_0_1_3 (extractStridedSlice S16x8400x2 ![0, 0, 0] (res_main_v7 V0) slices_S16x8400x4_S16x8400x2_0_0_0))) (broadcastInDim S16x8400x100x2 ![0, 1, 2, 3] bcast_S16x1x100x2_S16x8400x100x2_0_1_2_3 (broadcastInDim S16x1x100x2 ![0, 2, 3] bcast_S16x100x2_S16x1x100x2_0_2_3 (extractStridedSlice S16x100x2 ![0, 0, 0] (res_main_v8 V0) slices_S16x100x4_S16x100x2_0_0_0)))))

set_option maxRecDepth 8192 in
/-- The buffer `main_v79` after the line, as a term of the arguments. -/
def res_main_v79 (V0 : Valuation τ sig (Elt F)) : (Proc.devRef .tc main_v79 : DevRef τ sig).ty.Contents (Elt F) :=
  mulf (shapeCast _ (extractStridedSlice S16x8400x100x1 ![0, 0, 0, 0] (res_main_v74 V0) slices_S16x8400x100x2_S16x8400x100x1_0_0_0_0) shapeCasts_S16x8400x100x1_S16x8400x100) (shapeCast _ (extractStridedSlice S16x8400x100x1 ![0, 0, 0, 1] (res_main_v74 V0) slices_S16x8400x100x2_S16x8400x100x1_0_0_0_1) shapeCasts_S16x8400x100x1_S16x8400x100)

set_option maxRecDepth 8192 in
/-- The buffer `main_v82` after the line, as a term of the arguments. -/
def res_main_v82 (V0 : Valuation τ sig (Elt F)) : (Proc.devRef .tc main_v82 : DevRef τ sig).ty.Contents (Elt F) :=
  subf (Host.divf (res_main_v51 V0) (res_main_v57 V0)) (Host.divf (subf (res_main_v79 V0) (res_main_v57 V0)) (res_main_v79 V0))

set_option maxRecDepth 8192 in
/-- The buffer `main_v84` after the line, as a term of the arguments. -/
def res_main_v84 (V0 : Valuation τ sig (Elt F)) : (Proc.devRef .tc main_v84 : DevRef τ sig).ty.Contents (Elt F) :=
  fun j => (Host.argReduce reducer_argmax_f32_i32 (res_main_v82 V0) (iotaInDim S16x8400x100 32 1) (constant S_ .f32 0xFF800000#32) (constantI S_ 32 0#32) reducesTo_S16x8400x100_S16x100_d1 h_S_ j).2

set_option maxRecDepth 8192 in
/-- The buffer `main_v100` after the line, as a term of the arguments. -/
def res_main_v100 (V0 : Valuation τ sig (Elt F)) : (Proc.devRef .tc main_v100 : DevRef τ sig).ty.Contents (Elt F) :=
  shapeCast _ (select (res_main_v5 V0) (addi (res_main_v84 V0) (broadcastInDim S16x100 ![0, 1] bcast_S16x1_S16x100_0_1 (broadcastInDim S16x1 ![0] bcast_S16_S16x1_0 (muli (iotaInDim S16 32 0) (broadcastInDim S16 ![] bcast_S_S16 (constantI S_ 32 8400#32)))))) (broadcastInDim S16x100 ![] bcast_S_S16x100 (id (constantI S_ 32 134400#32)))) shapeCasts_S16x100_S1600

set_option maxRecDepth 8192 in
/-- The buffer `main_v109` after the line, as a term of the arguments. -/
def res_main_v109 (V0 : Valuation τ sig (Elt F)) : (Proc.devRef .tc main_v109 : DevRef τ sig).ty.Contents (Elt F) :=
  shapeCast _ (Host.scatter scatter_S134400_S1600x1_S1600_n_0_0_1 (fun _ b => b) (broadcastInDim S134400 ![] bcast_S_S134400 (constant S_ .f32 0x00000000#32)) (broadcastInDim S1600x1 ![0] bcast_S1600_S1600x1_0 (select (cmpi .slt (res_main_v100 V0) (broadcastInDim S1600 ![] bcast_S_S1600 (constantI S_ 32 0#32))) (addi (res_main_v100 V0) (broadcastInDim S1600 ![] bcast_S_S1600 (constantI S_ 32 134400#32))) (res_main_v100 V0))) (broadcastInDim S1600 ![] bcast_S_S1600 (constant S_ .f32 0x3F800000#32))) shapeCasts_S134400_S16x8400

set_option maxRecDepth 8192 in
/-- The buffer `main_v111` after the line, as a term of the arguments. -/
def res_main_v111 (V0 : Valuation τ sig (Elt F)) : (Proc.devRef .tc main_v111 : DevRef τ sig).ty.Contents (Elt F) :=
  shapeCast _ (extractStridedSlice S16x8400x1 ![0, 0, 4] (V0 (Proc.devRef .tc main_arg0)) slices_S16x8400x85_S16x8400x1_0_0_4) shapeCasts_S16x8400x1_S16x8400

set_option maxRecDepth 8192 in
/-- The buffer `main_v145` after the line, as a term of the arguments. -/
def res_main_v145 (V0 : Valuation τ sig (Elt F)) : (Proc.devRef .tc main_v145 : DevRef τ sig).ty.Contents (Elt F) :=
  broadcastInDim S16x100x1 ![0, 1] bcast_S16x100_S16x100x1_0_1 (res_main_v84 V0)

set_option maxRecDepth 8192 in
/-- The buffer `main_call4_v4` after the line, as a term of the arguments. -/
def res_main_call4_v4 (V0 : Valuation τ sig (Elt F)) : (Proc.devRef .tc main_call4_v4 : DevRef τ sig).ty.Contents (Elt F) :=
  select (cmpi .slt (res_main_v145 V0) (broadcastInDim S16x100x1 ![] bcast_S_S16x100x1 (constantI S_ 32 0#32))) (addi (res_main_v145 V0) (broadcastInDim S16x100x1 ![] bcast_S_S16x100x1 (constantI S_ 32 8400#32))) (res_main_v145 V0)

set_option maxRecDepth 8192 in
/-- The buffer `main_v146` after the line, as a term of the arguments. -/
def res_main_v146 (V0 : Valuation τ sig (Elt F)) : (Proc.devRef .tc main_v146 : DevRef τ sig).ty.Contents (Elt F) :=
  select (broadcastInDim S16x100x80 ![0, 1] bcast_S16x100_S16x100x80_0_1 (Host.reduce IntOp.andi (andi (cmpi .sge (res_main_call4_v4 V0) (broadcastInDim S16x100x1 ![] bcast_S_S16x100x1 (constantI S_ 32 0#32))) (cmpi .sle (res_main_call4_v4 V0) (broadcastInDim S16x100x1 ![0, 1, 2] bcast_S1x1x1_S16x100x1_0_1_2 (broadcastInDim S1x1x1 ![2] bcast_S1_S1x1x1_2 (constantI S1 32 8399#32))))) (constantI S_ 1 1#1) reducesTo_S16x100x1_S16x100_d2 h_S_)) (Host.gather gather_S16x8400x80_S16x100x1_S16x100x80_2_1_0_0_1_2_1180 (extractStridedSlice S16x8400x80 ![0, 0, 5] (V0 (Proc.devRef .tc main_arg0)) slices_S16x8400x85_S16x8400x80_0_0_5) (res_main_call4_v4 V0)) (broadcastInDim S16x100x80 ![] bcast_S_S16x100x80 (constant S_ .f32 0x7FC00000#32))

/-- The result `main_v91` as a term of the arguments. -/
def res_main_v91 (V0 : Valuation τ sig (Elt F)) : (Proc.devRef .tc main_v91 : DevRef τ sig).ty.Contents (Elt F) :=
  mulf (Host.divf (Host.reduceAdd (Host.reduceAdd (mulf (subf (broadcastInDim S16x100 ![] bcast_S_S16x100 (constant S_ .f32 0x3F800000#32)) (Host.reduce FloatOps.maximumf (res_main_v82 V0) (constant S_ .f32 0xFF800000#32) reducesTo_S16x8400x100_S16x100_d1 h_S_)) (res_main_v6 V0)) (constant S_ .f32 0x00000000#32) reducesTo_S16x100_S16_d1 h_S_) (constant S_ .f32 0x00000000#32) reducesTo_S16_S_d0 h_S_) (constant S_ .f32 0x41800000#32)) (constant S_ .f32 0x40A00000#32)

/-- The result `main_v126` as a term of the arguments. -/
def res_main_v126 (V0 : Valuation τ sig (Elt F)) : (Proc.devRef .tc main_v126 : DevRef τ sig).ty.Contents (Elt F) :=
  mulf (Host.divf (Host.reduceAdd (Host.reduceAdd (mulf (addf (subf (maximumf (res_main_v111 V0) (broadcastInDim S16x8400 ![] bcast_S_S16x8400 (constant S_ .f32 0x00000000#32))) (mulf (res_main_v111 V0) (broadcastInDim S16x8400 ![] bcast_S_S16x8400 (constant S_ .f32 0x3F800000#32)))) (Host.log1p (Host.exp (Host.negf (Host.absf (res_main_v111 V0)))))) (res_main_v109 V0)) (constant S_ .f32 0x00000000#32) reducesTo_S16x8400_S16_d1 h_S_) (constant S_ .f32 0x00000000#32) reducesTo_S16_S_d0 h_S_) (constant S_ .f32 0x41800000#32)) (constant S_ .f32 0x40000000#32)

/-- The result `main_v143` as a term of the arguments. -/
def res_main_v143 (V0 : Valuation τ sig (Elt F)) : (Proc.devRef .tc main_v143 : DevRef τ sig).ty.Contents (Elt F) :=
  mulf (Host.divf (Host.reduceAdd (Host.reduceAdd (mulf (addf (subf (maximumf (res_main_v111 V0) (broadcastInDim S16x8400 ![] bcast_S_S16x8400 (constant S_ .f32 0x00000000#32))) (mulf (res_main_v111 V0) (broadcastInDim S16x8400 ![] bcast_S_S16x8400 (constant S_ .f32 0x00000000#32)))) (Host.log1p (Host.exp (Host.negf (Host.absf (res_main_v111 V0)))))) (subf (broadcastInDim S16x8400 ![] bcast_S_S16x8400 (constant S_ .f32 0x3F800000#32)) (res_main_v109 V0))) (constant S_ .f32 0x00000000#32) reducesTo_S16x8400_S16_d1 h_S_) (constant S_ .f32 0x00000000#32) reducesTo_S16_S_d0 h_S_) (constant S_ .f32 0x41800000#32)) (constant S_ .f32 0x3F000000#32)

/-- The result `main_v163` as a term of the arguments. -/
def res_main_v163 (V0 : Valuation τ sig (Elt F)) : (Proc.devRef .tc main_v163 : DevRef τ sig).ty.Contents (Elt F) :=
  mulf (Host.divf (Host.reduceAdd (mulf (Host.reduceAdd (addf (subf (maximumf (res_main_v146 V0) (broadcastInDim S16x100x80 ![] bcast_S_S16x100x80 (constant S_ .f32 0x00000000#32))) (mulf (res_main_v146 V0) (extractStridedSlice S16x100x80 ![0, 0, 5] (V0 (Proc.devRef .tc main_arg1)) slices_S16x100x85_S16x100x80_0_0_5))) (Host.log1p (Host.exp (Host.negf (Host.absf (res_main_v146 V0)))))) (constant S_ .f32 0x00000000#32) reducesTo_S16x100x80_S16x100_d2 h_S_) (res_main_v6 V0)) (constant S_ .f32 0x00000000#32) reducesTo_S16x100_S_d0_1 h_S_) (maximumf (Host.reduceAdd (res_main_v6 V0) (constant S_ .f32 0x00000000#32) reducesTo_S16x100_S_d0_1 h_S_) (constant S_ .f32 0x3F800000#32))) (constant S_ .f32 0x3F800000#32)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29]
set_option maxRecDepth 8192 in
theorem ops_part0_0_writes : (ops_part0_0 : List (HloOp τ sig (Elt F))).Forall fun op => op.writes ⊆ (ops_part0_0_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0]
  after_results_simp
  simp only [val0_main_arg2] <;> rfl
set_option maxRecDepth 8192 in
set_option maxHeartbeats 2000000 in
theorem val0_1_main_v6 (V0 : Valuation τ sig (Elt F)) : val0_1 V0 (no_index (Proc.devRef .tc main_v6)) = res_main_v6 V0 := by
  unfold val0_1
  simp only [ops_part0_0]
  after_results_simp
  simp only [val0_main_arg2] <;> rfl
set_option maxRecDepth 8192 in
set_option maxHeartbeats 2000000 in
theorem val0_1_main_v7 (V0 : Valuation τ sig (Elt F)) : val0_1 V0 (no_index (Proc.devRef .tc main_v7)) = res_main_v7 V0 := by
  unfold val0_1
  simp only [ops_part0_0]
  after_results_simp
  simp only [val0_main_arg0] <;> rfl
set_option maxRecDepth 8192 in
set_option maxHeartbeats 2000000 in
theorem val0_1_main_v8 (V0 : Valuation τ sig (Elt F)) : val0_1 V0 (no_index (Proc.devRef .tc main_v8)) = res_main_v8 V0 := by
  unfold val0_1
  simp only [ops_part0_0]
  after_results_simp
  simp only [val0_main_arg1] <;> rfl
set_option maxRecDepth 8192 in
set_option maxHeartbeats 2000000 in
theorem val0_1_main_v19 (V0 : Valuation τ sig (Elt F)) : val0_1 V0 (no_index (Proc.devRef .tc main_v19)) = mulf (subf (shapeCast _ (extractStridedSlice S16x8400x1 ![0, 0, 2] (res_main_v7 V0) slices_S16x8400x4_S16x8400x1_0_0_2) shapeCasts_S16x8400x1_S16x8400) (shapeCast _ (extractStridedSlice S16x8400x1 ![0, 0, 0] (res_main_v7 V0) slices_S16x8400x4_S16x8400x1_0_0_0) shapeCasts_S16x8400x1_S16x8400)) (subf (shapeCast _ (extractStridedSlice S16x8400x1 ![0, 0, 3] (res_main_v7 V0) slices_S16x8400x4_S16x8400x1_0_0_3) shapeCasts_S16x8400x1_S16x8400) (shapeCast _ (extractStridedSlice S16x8400x1 ![0, 0, 1] (res_main_v7 V0) slices_S16x8400x4_S16x8400x1_0_0_1) shapeCasts_S16x8400x1_S16x8400)) := by
  unfold val0_1
  simp only [ops_part0_0]
  after_results_simp
  simp only [val0_main_arg0] <;> rfl
set_option maxRecDepth 8192 in
set_option maxHeartbeats 2000000 in
theorem val0_1_main_v24 (V0 : Valuation τ sig (Elt F)) : val0_1 V0 (no_index (Proc.devRef .tc main_v24)) = subf (shapeCast _ (extractStridedSlice S16x100x1 ![0, 0, 2] (res_main_v8 V0) slices_S16x100x4_S16x100x1_0_0_2) shapeCasts_S16x100x1_S16x100) (shapeCast _ (extractStridedSlice S16x100x1 ![0, 0, 0] (res_main_v8 V0) slices_S16x100x4_S16x100x1_0_0_0) shapeCasts_S16x100x1_S16x100) := by
  unfold val0_1
  simp only [ops_part0_0]
  after_results_simp
  simp only [val0_main_arg1] <;> rfl
set_option maxRecDepth 8192 in
set_option maxHeartbeats 2000000 in
theorem val0_1_main_v29 (V0 : Valuation τ sig (Elt F)) : val0_1 V0 (no_index (Proc.devRef .tc main_v29)) = subf (shapeCast _ (extractStridedSlice S16x100x1 ![0, 0, 3] (res_main_v8 V0) slices_S16x100x4_S16x100x1_0_0_3) shapeCasts_S16x100x1_S16x100) (shapeCast _ (extractStridedSlice S16x100x1 ![0, 0, 1] (res_main_v8 V0) slices_S16x100x4_S16x100x1_0_0_1) shapeCasts_S16x100x1_S16x100) := by
  unfold val0_1
  simp only [ops_part0_0]
  after_results_simp
  simp only [val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v30, main_v31, main_v32, main_v33, main_v34, main_v35, main_v36, main_v37, main_v38, main_v39, main_v40, main_v41, main_v42, main_v43, main_v44, main_v45, main_c, main_call0_v0, main_call0_v1, main_v46, main_v47, main_v48, main_v49, main_v50, main_v51, main_v52, main_v53, main_v54, main_v55, main_v56]
set_option maxRecDepth 8192 in
theorem ops_part0_1_writes : (ops_part0_1 : List (HloOp τ sig (Elt F))).Forall fun op => op.writes ⊆ (ops_part0_1_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v6 (V0 : Valuation τ sig (Elt F)) : val0_2 V0 (no_index (Proc.devRef .tc main_v6)) = res_main_v6 V0 :=
  (val0_2_keep V0 main_v6 (by decide)).trans (val0_1_main_v6 V0)
theorem val0_2_main_v7 (V0 : Valuation τ sig (Elt F)) : val0_2 V0 (no_index (Proc.devRef .tc main_v7)) = res_main_v7 V0 :=
  (val0_2_keep V0 main_v7 (by decide)).trans (val0_1_main_v7 V0)
theorem val0_2_main_v8 (V0 : Valuation τ sig (Elt F)) : val0_2 V0 (no_index (Proc.devRef .tc main_v8)) = res_main_v8 V0 :=
  (val0_2_keep V0 main_v8 (by decide)).trans (val0_1_main_v8 V0)
set_option maxRecDepth 8192 in
set_option maxHeartbeats 2000000 in
theorem val0_2_main_v51 (V0 : Valuation τ sig (Elt F)) : val0_2 V0 (no_index (Proc.devRef .tc main_v51)) = res_main_v51 V0 := by
  unfold val0_2
  simp only [ops_part0_1, TRef.binary, TRef.unary, TRef.toBuf, TRef.ofBuf, cast_eq]
  after_results_simp
  simp only [val0_1_main_v8, val0_1_main_v7] <;> rfl
set_option maxRecDepth 8192 in
set_option maxHeartbeats 2000000 in
theorem val0_2_main_v56 (V0 : Valuation τ sig (Elt F)) : val0_2 V0 (no_index (Proc.devRef .tc main_v56)) = addf (broadcastInDim S16x8400x100 ![0, 1, 2] bcast_S16x8400x1_S16x8400x100_0_1_2 (broadcastInDim S16x8400x1 ![0, 1] bcast_S16x8400_S16x8400x1_0_1 (mulf (subf (shapeCast _ (extractStridedSlice S16x8400x1 ![0, 0, 2] (res_main_v7 V0) slices_S16x8400x4_S16x8400x1_0_0_2) shapeCasts_S16x8400x1_S16x8400) (shapeCast _ (extractStridedSlice S16x8400x1 ![0, 0, 0] (res_main_v7 V0) slices_S16x8400x4_S16x8400x1_0_0_0) shapeCasts_S16x8400x1_S16x8400)) (subf (shapeCast _ (extractStridedSlice S16x8400x1 ![0, 0, 3] (res_main_v7 V0) slices_S16x8400x4_S16x8400x1_0_0_3) shapeCasts_S16x8400x1_S16x8400) (shapeCast _ (extractStridedSlice S16x8400x1 ![0, 0, 1] (res_main_v7 V0) slices_S16x8400x4_S16x8400x1_0_0_1) shapeCasts_S16x8400x1_S16x8400))))) (broadcastInDim S16x8400x100 ![0, 1, 2] bcast_S16x1x100_S16x8400x100_0_1_2 (broadcastInDim S16x1x100 ![0, 2] bcast_S16x100_S16x1x100_0_2 (mulf (subf (shapeCast _ (extractStridedSlice S16x100x1 ![0, 0, 2] (res_main_v8 V0) slices_S16x100x4_S16x100x1_0_0_2) shapeCasts_S16x100x1_S16x100) (shapeCast _ (extractStridedSlice S16x100x1 ![0, 0, 0] (res_main_v8 V0) slices_S16x100x4_S16x100x1_0_0_0) shapeCasts_S16x100x1_S16x100)) (subf (shapeCast _ (extractStridedSlice S16x100x1 ![0, 0, 3] (res_main_v8 V0) slices_S16x100x4_S16x100x1_0_0_3) shapeCasts_S16x100x1_S16x100) (shapeCast _ (extractStridedSlice S16x100x1 ![0, 0, 1] (res_main_v8 V0) slices_S16x100x4_S16x100x1_0_0_1) shapeCasts_S16x100x1_S16x100))))) := by
  unfold val0_2
  simp only [ops_part0_1, TRef.binary, TRef.unary, TRef.toBuf, TRef.ofBuf, cast_eq]
  after_results_simp
  simp only [val0_1_main_v29, val0_1_main_v24, val0_1_main_v19] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v57, main_v58]
set_option maxRecDepth 8192 in
theorem ops_part0_2_writes : (ops_part0_2 : List (HloOp τ sig (Elt F))).Forall fun op => op.writes ⊆ (ops_part0_2_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_v5 (V0 : Valuation τ sig (Elt F)) : val1 V0 (no_index (Proc.devRef .tc main_v5)) = res_main_v5 V0 :=
  (val1_keep V0 main_v5 (by decide)).trans (val0_2_main_v5 V0)
theorem val1_main_v6 (V0 : Valuation τ sig (Elt F)) : val1 V0 (no_index (Proc.devRef .tc main_v6)) = res_main_v6 V0 :=
  (val1_keep V0 main_v6 (by decide)).trans (val0_2_main_v6 V0)
theorem val1_main_v7 (V0 : Valuation τ sig (Elt F)) : val1 V0 (no_index (Proc.devRef .tc main_v7)) = res_main_v7 V0 :=
  (val1_keep V0 main_v7 (by decide)).trans (val0_2_main_v7 V0)
theorem val1_main_v8 (V0 : Valuation τ sig (Elt F)) : val1 V0 (no_index (Proc.devRef .tc main_v8)) = res_main_v8 V0 :=
  (val1_keep V0 main_v8 (by decide)).trans (val0_2_main_v8 V0)
set_option maxRecDepth 8192 in
theorem val1_main_v57 (V0 : Valuation τ sig (Elt F)) : val1 V0 (no_index (Proc.devRef .tc main_v57)) = res_main_v57 V0 := by
  unfold val1
  simp only [ops_part0_2]
  after_results_simp
  simp only [val0_2_main_v51, val0_2_main_v56] <;> rfl
set_option maxRecDepth 8192 in
theorem val1_main_v58 (V0 : Valuation τ sig (Elt F)) : val1 V0 (no_index (Proc.devRef .tc main_v58)) = Host.divf (res_main_v51 V0) (res_main_v57 V0) := by
  unfold val1
  simp only [ops_part0_2]
  after_results_simp
  simp only [val0_2_main_v56, val0_2_main_v51] <;> rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_v59, main_v60, main_v61, main_v62, main_v63, main_v64, main_v65, main_v66, main_v67, main_v68, main_v69, main_v70, main_v71, main_v72, main_v73, main_c_0, main_call1_v0, main_call1_v1, main_v74, main_v75, main_v76, main_v77, main_v78, main_v79, main_v80, main_v81, main_v82, main_cst, main_v83, main_call2_v0, main_call2_cst, main_call2_c]
set_option maxRecDepth 8192 in
theorem ops_part1_0_writes : (ops_part1_0 : List (HloOp τ sig (Elt F))).Forall fun op => op.writes ⊆ (ops_part1_0_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v5 (V0 : Valuation τ sig (Elt F)) : val1_1 V0 (no_index (Proc.devRef .tc main_v5)) = res_main_v5 V0 :=
  (val1_1_keep V0 main_v5 (by decide)).trans (val1_main_v5 V0)
theorem val1_1_main_v6 (V0 : Valuation τ sig (Elt F)) : val1_1 V0 (no_index (Proc.devRef .tc main_v6)) = res_main_v6 V0 :=
  (val1_1_keep V0 main_v6 (by decide)).trans (val1_main_v6 V0)
set_option maxRecDepth 8192 in
set_option maxHeartbeats 2000000 in
theorem val1_1_main_v82 (V0 : Valuation τ sig (Elt F)) : val1_1 V0 (no_index (Proc.devRef .tc main_v82)) = res_main_v82 V0 := by
  unfold val1_1
  simp only [ops_part1_0, TRef.binary, TRef.nullary, TRef.unary, TRef.toBuf, TRef.ofBuf, cast_eq]
  after_results_simp
  simp only [val1_main_v8, val1_main_v7, val1_main_v57, val1_main_v58] <;> rfl
set_option maxRecDepth 8192 in
set_option maxHeartbeats 2000000 in
theorem val1_1_main_v83 (V0 : Valuation τ sig (Elt F)) : val1_1 V0 (no_index (Proc.devRef .tc main_v83)) = Host.reduce FloatOps.maximumf (res_main_v82 V0) (constant S_ .f32 0xFF800000#32) reducesTo_S16x8400x100_S16x100_d1 h_S_ := by
  unfold val1_1
  simp only [ops_part1_0, TRef.binary, TRef.nullary, TRef.unary, TRef.toBuf, TRef.ofBuf, cast_eq]
  after_results_simp
  simp only [val1_main_v8, val1_main_v7, val1_main_v57, val1_main_v58] <;> rfl
set_option maxRecDepth 8192 in
set_option maxHeartbeats 2000000 in
theorem val1_1_main_call2_v0 (V0 : Valuation τ sig (Elt F)) : val1_1 V0 (no_index (Proc.devRef .tc main_call2_v0)) = iotaInDim S16x8400x100 32 1 := by
  unfold val1_1
  simp only [ops_part1_0, TRef.binary, TRef.nullary, TRef.unary, TRef.toBuf, TRef.ofBuf, cast_eq]
  after_results_simp
  all_goals rfl
set_option maxRecDepth 8192 in
set_option maxHeartbeats 2000000 in
theorem val1_1_main_call2_cst (V0 : Valuation τ sig (Elt F)) : val1_1 V0 (no_index (Proc.devRef .tc main_call2_cst)) = constant S_ .f32 0xFF800000#32 := by
  unfold val1_1
  simp only [ops_part1_0, TRef.binary, TRef.nullary, TRef.unary, TRef.toBuf, TRef.ofBuf, cast_eq]
  after_results_simp
  all_goals rfl
set_option maxRecDepth 8192 in
set_option maxHeartbeats 2000000 in
theorem val1_1_main_call2_c (V0 : Valuation τ sig (Elt F)) : val1_1 V0 (no_index (Proc.devRef .tc main_call2_c)) = constantI S_ 32 0#32 := by
  unfold val1_1
  simp only [ops_part1_0, TRef.binary, TRef.nullary, TRef.unary, TRef.toBuf, TRef.ofBuf, cast_eq]
  after_results_simp
  all_goals rfl

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_call2_v1_0, main_v84, main_cst_1, main_v85, main_v86, main_v87, main_cst_2, main_v88, main_cst_3, main_v89, main_cst_4, main_v90, main_cst_5, main_v91, main_v92, main_c_6, main_v93, main_v94, main_v95, main_v96, main_v97, main_c_7, main_call3_v0]
set_option maxRecDepth 8192 in
theorem ops_part1_1_writes : (ops_part1_1 : List (HloOp τ sig (Elt F))).Forall fun op => op.writes ⊆ (ops_part1_1_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v5 (V0 : Valuation τ sig (Elt F)) : val1_2 V0 (no_index (Proc.devRef .tc main_v5)) = res_main_v5 V0 :=
  (val1_2_keep V0 main_v5 (by decide)).trans (val1_1_main_v5 V0)
theorem val1_2_main_v6 (V0 : Valuation τ sig (Elt F)) : val1_2 V0 (no_index (Proc.devRef .tc main_v6)) = res_main_v6 V0 :=
  (val1_2_keep V0 main_v6 (by decide)).trans (val1_1_main_v6 V0)
set_option maxRecDepth 8192 in
set_option maxHeartbeats 2000000 in
theorem val1_2_main_v84 (V0 : Valuation τ sig (Elt F)) : val1_2 V0 (no_index (Proc.devRef .tc main_v84)) = res_main_v84 V0 := by
  unfold val1_2
  simp only [ops_part1_1, TRef.quaternary, TRef.binary, TRef.nullary, TRef.ternary, TRef.unary, TRef.toBuf, TRef.ofBuf, cast_eq]
  after_results_simp
  simp only [val1_1_main_call2_v0, val1_1_main_call2_c, val1_1_main_call2_cst, val1_1_main_v82] <;> rfl
set_option maxRecDepth 8192 in
set_option maxHeartbeats 2000000 in
theorem val1_2_main_v91 (V0 : Valuation τ sig (Elt F)) : val1_2 V0 (no_index (Proc.devRef .tc main_v91)) = res_main_v91 V0 := by
  unfold val1_2
  simp only [ops_part1_1, TRef.quaternary, TRef.binary, TRef.nullary, TRef.ternary, TRef.unary, TRef.toBuf, TRef.ofBuf, cast_eq]
  after_results_simp
  simp only [val1_1_main_v6, val1_1_main_v83] <;> rfl
set_option maxRecDepth 8192 in
set_option maxHeartbeats 2000000 in
theorem val1_2_main_v97 (V0 : Valuation τ sig (Elt F)) : val1_2 V0 (no_index (Proc.devRef .tc main_v97)) = addi (res_main_v84 V0) (broadcastInDim S16x100 ![0, 1] bcast_S16x1_S16x100_0_1 (broadcastInDim S16x1 ![0] bcast_S16_S16x1_0 (muli (iotaInDim S16 32 0) (broadcastInDim S16 ![] bcast_S_S16 (constantI S_ 32 8400#32))))) := by
  unfold val1_2
  simp only [ops_part1_1, TRef.quaternary, TRef.binary, TRef.nullary, TRef.ternary, TRef.unary, TRef.toBuf, TRef.ofBuf, cast_eq]
  after_results_simp
  simp only [val1_1_main_call2_v0, val1_1_main_call2_c, val1_1_main_call2_cst, val1_1_main_v82] <;> rfl
set_option maxRecDepth 8192 in
set_option maxHeartbeats 2000000 in
theorem val1_2_main_call3_v0 (V0 : Valuation τ sig (Elt F)) : val1_2 V0 (no_index (Proc.devRef .tc main_call3_v0)) = id (constantI S_ 32 134400#32) := by
  unfold val1_2
  simp only [ops_part1_1, TRef.quaternary, TRef.binary, TRef.nullary, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_call3_v1, main_v98, main_cst_8, main_v99, main_v100, main_c_9, main_v101, main_v102, main_c_10, main_v103, main_v104, main_v105, main_v106]
set_option maxRecDepth 8192 in
theorem ops_part1_2_writes : (ops_part1_2 : List (HloOp τ sig (Elt F))).Forall fun op => op.writes ⊆ (ops_part1_2_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v6 (V0 : Valuation τ sig (Elt F)) : val2 V0 (no_index (Proc.devRef .tc main_v6)) = res_main_v6 V0 :=
  (val2_keep V0 main_v6 (by decide)).trans (val1_2_main_v6 V0)
theorem val2_main_v84 (V0 : Valuation τ sig (Elt F)) : val2 V0 (no_index (Proc.devRef .tc main_v84)) = res_main_v84 V0 :=
  (val2_keep V0 main_v84 (by decide)).trans (val1_2_main_v84 V0)
theorem val2_main_v91 (V0 : Valuation τ sig (Elt F)) : val2 V0 (no_index (Proc.devRef .tc main_v91)) = res_main_v91 V0 :=
  (val2_keep V0 main_v91 (by decide)).trans (val1_2_main_v91 V0)
set_option maxRecDepth 8192 in
set_option maxHeartbeats 1300000 in
theorem val2_main_v99 (V0 : Valuation τ sig (Elt F)) : val2 V0 (no_index (Proc.devRef .tc main_v99)) = broadcastInDim S134400 ![] bcast_S_S134400 (constant S_ .f32 0x00000000#32) := by
  unfold val2
  simp only [ops_part1_2, TRef.ternary, TRef.unary, TRef.toBuf, TRef.ofBuf, cast_eq]
  after_results_simp
  all_goals rfl
set_option maxRecDepth 8192 in
set_option maxHeartbeats 1300000 in
theorem val2_main_v106 (V0 : Valuation τ sig (Elt F)) : val2 V0 (no_index (Proc.devRef .tc main_v106)) = broadcastInDim S1600x1 ![0] bcast_S1600_S1600x1_0 (select (cmpi .slt (res_main_v100 V0) (broadcastInDim S1600 ![] bcast_S_S1600 (constantI S_ 32 0#32))) (addi (res_main_v100 V0) (broadcastInDim S1600 ![] bcast_S_S1600 (constantI S_ 32 134400#32))) (res_main_v100 V0)) := by
  unfold val2
  simp only [ops_part1_2, TRef.ternary, TRef.unary, TRef.toBuf, TRef.ofBuf, cast_eq]
  after_results_simp
  simp only [val1_2_main_call3_v0, val1_2_main_v97, val1_2_main_v5] <;> rfl

/-- The device's buffer contents after @main's first 165 operations. -/
def val2_1 (V0 : Valuation τ sig (Elt F)) : Valuation τ sig (Elt F) := after ops_part2_0 (val2 V0)
/-- The buffers that window `ops_part2_0`'s operations write. -/
abbrev ops_part2_0_W : List (Ref sig .tc) := [main_cst_11, main_v107, main_v108, main_v109, main_v110, main_v111, main_cst_12, main_v112, main_cst_13, main_v113, main_v114, main_v115, main_v116, main_v117, main_v118, main_v119, main_v120, main_v121, main_v122, main_cst_14, main_v123, main_cst_15, main_v124, main_cst_16, main_v125, main_cst_17, main_v126, main_cst_18, main_v127, main_cst_19]
set_option maxRecDepth 8192 in
theorem ops_part2_0_writes : (ops_part2_0 : List (HloOp τ sig (Elt F))).Forall fun op => op.writes ⊆ (ops_part2_0_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_arg2 (V0 : Valuation τ sig (Elt F)) : val2_1 V0 (no_index (Proc.devRef .tc main_arg2)) = V0 (Proc.devRef .tc main_arg2) :=
  (val2_1_keep V0 main_arg2 (by decide)).trans (val2_main_arg2 V0)
theorem val2_1_main_v6 (V0 : Valuation τ sig (Elt F)) : val2_1 V0 (no_index (Proc.devRef .tc main_v6)) = res_main_v6 V0 :=
  (val2_1_keep V0 main_v6 (by decide)).trans (val2_main_v6 V0)
theorem val2_1_main_v84 (V0 : Valuation τ sig (Elt F)) : val2_1 V0 (no_index (Proc.devRef .tc main_v84)) = res_main_v84 V0 :=
  (val2_1_keep V0 main_v84 (by decide)).trans (val2_main_v84 V0)
theorem val2_1_main_v91 (V0 : Valuation τ sig (Elt F)) : val2_1 V0 (no_index (Proc.devRef .tc main_v91)) = res_main_v91 V0 :=
  (val2_1_keep V0 main_v91 (by decide)).trans (val2_main_v91 V0)
set_option maxRecDepth 8192 in
set_option maxHeartbeats 2000000 in
theorem val2_1_main_v109 (V0 : Valuation τ sig (Elt F)) : val2_1 V0 (no_index (Proc.devRef .tc main_v109)) = res_main_v109 V0 := by
  unfold val2_1
  simp only [ops_part2_0]
  after_results_simp
  simp only [val2_main_v106, val2_main_v99] <;> rfl
set_option maxRecDepth 8192 in
set_option maxHeartbeats 2000000 in
theorem val2_1_main_v111 (V0 : Valuation τ sig (Elt F)) : val2_1 V0 (no_index (Proc.devRef .tc main_v111)) = res_main_v111 V0 := by
  unfold val2_1
  simp only [ops_part2_0]
  after_results_simp
  simp only [val2_main_arg0] <;> rfl
set_option maxRecDepth 8192 in
set_option maxHeartbeats 2000000 in
theorem val2_1_main_v126 (V0 : Valuation τ sig (Elt F)) : val2_1 V0 (no_index (Proc.devRef .tc main_v126)) = res_main_v126 V0 := by
  unfold val2_1
  simp only [ops_part2_0]
  after_results_simp
  simp only [val2_main_v106, val2_main_v99, val2_main_arg0] <;> rfl
set_option maxRecDepth 8192 in
set_option maxHeartbeats 2000000 in
theorem val2_1_main_v127 (V0 : Valuation τ sig (Elt F)) : val2_1 V0 (no_index (Proc.devRef .tc main_v127)) = broadcastInDim S16x8400 ![] bcast_S_S16x8400 (constant S_ .f32 0x00000000#32) := by
  unfold val2_1
  simp only [ops_part2_0]
  after_results_simp
  all_goals rfl
set_option maxRecDepth 8192 in
set_option maxHeartbeats 2000000 in
theorem val2_1_main_cst_19 (V0 : Valuation τ sig (Elt F)) : val2_1 V0 (no_index (Proc.devRef .tc main_cst_19)) = constant S_ .f32 0x00000000#32 := by
  unfold val2_1
  simp only [ops_part2_0]
  after_results_simp
  all_goals rfl

/-- The device's buffer contents after @main's first 195 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v128, main_v129, main_v130, main_v131, main_v132, main_v133, main_v134, main_v135, main_v136, main_cst_20, main_v137, main_v138, main_v139, main_cst_21, main_v140, main_cst_22, main_v141, main_cst_23, main_v142, main_cst_24, main_v143, main_v144, main_v145, main_call4_c, main_call4_v0, main_call4_v1, main_call4_c_0, main_call4_v2, main_call4_v3, main_call4_v4]
set_option maxRecDepth 8192 in
theorem ops_part2_1_writes : (ops_part2_1 : List (HloOp τ sig (Elt F))).Forall fun op => op.writes ⊆ (ops_part2_1_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_arg2 (V0 : Valuation τ sig (Elt F)) : val2_2 V0 (no_index (Proc.devRef .tc main_arg2)) = V0 (Proc.devRef .tc main_arg2) :=
  (val2_2_keep V0 main_arg2 (by decide)).trans (val2_1_main_arg2 V0)
theorem val2_2_main_v6 (V0 : Valuation τ sig (Elt F)) : val2_2 V0 (no_index (Proc.devRef .tc main_v6)) = res_main_v6 V0 :=
  (val2_2_keep V0 main_v6 (by decide)).trans (val2_1_main_v6 V0)
theorem val2_2_main_v91 (V0 : Valuation τ sig (Elt F)) : val2_2 V0 (no_index (Proc.devRef .tc main_v91)) = res_main_v91 V0 :=
  (val2_2_keep V0 main_v91 (by decide)).trans (val2_1_main_v91 V0)
theorem val2_2_main_v126 (V0 : Valuation τ sig (Elt F)) : val2_2 V0 (no_index (Proc.devRef .tc main_v126)) = res_main_v126 V0 :=
  (val2_2_keep V0 main_v126 (by decide)).trans (val2_1_main_v126 V0)
set_option maxRecDepth 8192 in
set_option maxHeartbeats 2000000 in
theorem val2_2_main_v143 (V0 : Valuation τ sig (Elt F)) : val2_2 V0 (no_index (Proc.devRef .tc main_v143)) = res_main_v143 V0 := by
  unfold val2_2
  simp only [ops_part2_1, TRef.binary, TRef.nullary, TRef.ternary, TRef.unary, TRef.toBuf, TRef.ofBuf, cast_eq]
  after_results_simp
  simp only [val2_1_main_v109, val2_1_main_v111, val2_1_main_v127, val2_1_main_cst_19] <;> rfl
set_option maxRecDepth 8192 in
set_option maxHeartbeats 2000000 in
theorem val2_2_main_v144 (V0 : Valuation τ sig (Elt F)) : val2_2 V0 (no_index (Proc.devRef .tc main_v144)) = extractStridedSlice S16x8400x80 ![0, 0, 5] (V0 (Proc.devRef .tc main_arg0)) slices_S16x8400x85_S16x8400x80_0_0_5 := by
  unfold val2_2
  simp only [ops_part2_1, TRef.binary, TRef.nullary, TRef.ternary, TRef.unary, TRef.toBuf, TRef.ofBuf, cast_eq]
  after_results_simp
  simp only [val2_1_main_arg0] <;> rfl
set_option maxRecDepth 8192 in
set_option maxHeartbeats 2000000 in
theorem val2_2_main_call4_v4 (V0 : Valuation τ sig (Elt F)) : val2_2 V0 (no_index (Proc.devRef .tc main_call4_v4)) = res_main_call4_v4 V0 := by
  unfold val2_2
  simp only [ops_part2_1, TRef.binary, TRef.nullary, TRef.ternary, TRef.unary, TRef.toBuf, TRef.ofBuf, cast_eq]
  after_results_simp
  simp only [val2_1_main_v84] <;> rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_call4_c_1, main_call4_c_2, main_call4_v5, main_call4_v6, main_call4_v7, main_call4_v8, main_call4_v9, main_call4_v10, main_call4_c_3, main_call4_v11, main_call4_v12, main_call4_v13, main_call4_cst, main_call4_v14, main_v146, main_v147, main_cst_25, main_v148, main_v149, main_v150, main_v151]
set_option maxRecDepth 8192 in
theorem ops_part2_2_writes : (ops_part2_2 : List (HloOp τ sig (Elt F))).Forall fun op => op.writes ⊆ (ops_part2_2_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_2_main_arg2 V0)
theorem val3_main_v6 (V0 : Valuation τ sig (Elt F)) : val3 V0 (no_index (Proc.devRef .tc main_v6)) = res_main_v6 V0 :=
  (val3_keep V0 main_v6 (by decide)).trans (val2_2_main_v6 V0)
theorem val3_main_v91 (V0 : Valuation τ sig (Elt F)) : val3 V0 (no_index (Proc.devRef .tc main_v91)) = res_main_v91 V0 :=
  (val3_keep V0 main_v91 (by decide)).trans (val2_2_main_v91 V0)
theorem val3_main_v126 (V0 : Valuation τ sig (Elt F)) : val3 V0 (no_index (Proc.devRef .tc main_v126)) = res_main_v126 V0 :=
  (val3_keep V0 main_v126 (by decide)).trans (val2_2_main_v126 V0)
theorem val3_main_v143 (V0 : Valuation τ sig (Elt F)) : val3 V0 (no_index (Proc.devRef .tc main_v143)) = res_main_v143 V0 :=
  (val3_keep V0 main_v143 (by decide)).trans (val2_2_main_v143 V0)
set_option maxRecDepth 8192 in
set_option maxHeartbeats 2000000 in
theorem val3_main_v146 (V0 : Valuation τ sig (Elt F)) : val3 V0 (no_index (Proc.devRef .tc main_v146)) = res_main_v146 V0 := by
  unfold val3
  simp only [ops_part2_2, TRef.binary, TRef.nullary, TRef.ternary, TRef.unary, TRef.toBuf, TRef.ofBuf, cast_eq]
  after_results_simp
  simp only [val2_2_main_call4_v4, val2_2_main_v144] <;> rfl
set_option maxRecDepth 8192 in
set_option maxHeartbeats 2000000 in
theorem val3_main_v151 (V0 : Valuation τ sig (Elt F)) : val3 V0 (no_index (Proc.devRef .tc main_v151)) = subf (maximumf (res_main_v146 V0) (broadcastInDim S16x100x80 ![] bcast_S_S16x100x80 (constant S_ .f32 0x00000000#32))) (mulf (res_main_v146 V0) (extractStridedSlice S16x100x80 ![0, 0, 5] (V0 (Proc.devRef .tc main_arg1)) slices_S16x100x85_S16x100x80_0_0_5)) := by
  unfold val3
  simp only [ops_part2_2, TRef.binary, TRef.nullary, TRef.ternary, TRef.unary, TRef.toBuf, TRef.ofBuf, cast_eq]
  after_results_simp
  simp only [val2_2_main_arg1, val2_2_main_call4_v4, val2_2_main_v144] <;> rfl

/-- The device's buffer contents after @main's first 4 windows. -/
def val4 (V0 : Valuation τ sig (Elt F)) : Valuation τ sig (Elt F) := after ops_part3 (val3 V0)
/-- The buffers that window `main_part3`'s operations write. -/
abbrev ops_part3_W : List (Ref sig .tc) := [main_v152, main_v153, main_v154, main_v155, main_v156, main_cst_26, main_v157, main_v158, main_cst_27, main_v159, main_cst_28, main_v160, main_cst_29, main_v161, main_v162, main_cst_30, main_v163, main_v164, main_v165, main_v166]
set_option maxRecDepth 8192 in
theorem ops_part3_writes : (ops_part3 : List (HloOp τ sig (Elt F))).Forall fun op => op.writes ⊆ (ops_part3_W.map (Proc.devRef (τ := τ) .tc)).toFinset := by
  simp only [List.Forall, TRef.nullary, TRef.unary, TRef.binary, TRef.ternary, TRef.quaternary, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
/-- A buffer that window `main_part3` does not write keeps its contents through it. -/
theorem val4_keep (V0 : Valuation τ sig (Elt F)) (r : Ref sig .tc) (h : r ∉ ops_part3_W) :
    val4 V0 (Proc.devRef .tc r) = val3 V0 (Proc.devRef .tc r) :=
  after_of_writes_sub ops_part3 _ ops_part3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_v91 (V0 : Valuation τ sig (Elt F)) : val4 V0 (no_index (Proc.devRef .tc main_v91)) = res_main_v91 V0 :=
  (val4_keep V0 main_v91 (by decide)).trans (val3_main_v91 V0)
theorem val4_main_v126 (V0 : Valuation τ sig (Elt F)) : val4 V0 (no_index (Proc.devRef .tc main_v126)) = res_main_v126 V0 :=
  (val4_keep V0 main_v126 (by decide)).trans (val3_main_v126 V0)
theorem val4_main_v143 (V0 : Valuation τ sig (Elt F)) : val4 V0 (no_index (Proc.devRef .tc main_v143)) = res_main_v143 V0 :=
  (val4_keep V0 main_v143 (by decide)).trans (val3_main_v143 V0)
set_option maxRecDepth 8192 in
set_option maxHeartbeats 2000000 in
theorem val4_main_v163 (V0 : Valuation τ sig (Elt F)) : val4 V0 (no_index (Proc.devRef .tc main_v163)) = res_main_v163 V0 := by
  unfold val4
  simp only [ops_part3]
  after_results_simp
  simp only [val3_main_v6, val3_main_v146, val3_main_v151] <;> rfl
set_option maxRecDepth 8192 in
set_option maxHeartbeats 2000000 in
theorem val4_main_v166 (V0 : Valuation τ sig (Elt F)) : val4 V0 (no_index (Proc.devRef .tc main_v166)) = addf (addf (addf (res_main_v91 V0) (res_main_v126 V0)) (res_main_v143 V0)) (res_main_v163 V0) := by
  unfold val4
  simp only [ops_part3]
  after_results_simp
  simp only [val3_main_v6, val3_main_v146, val3_main_v151, val3_main_v143, val3_main_v126, val3_main_v91] <;> rfl

theorem after_ops (V0 : Valuation τ sig (Elt F)) : after ops V0 = val4 V0 := by
  simp only [ops, ops_part0, ops_part1, ops_part2, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v166) = addf (addf (addf (res_main_v91 (launchContents m c)) (res_main_v126 (launchContents m c))) (res_main_v143 (launchContents m c))) (res_main_v163 (launchContents m c))
      ∧ r.2.mem ((c.tc : Thread nD τ).loc main_v91) = res_main_v91 (launchContents m c)
      ∧ r.2.mem ((c.tc : Thread nD τ).loc main_v126) = res_main_v126 (launchContents m c)
      ∧ r.2.mem ((c.tc : Thread nD τ).loc main_v143) = res_main_v143 (launchContents m c)
      ∧ r.2.mem ((c.tc : Thread nD τ).loc main_v163) = res_main_v163 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v166).trans ((congrFun (after_ops (launchContents m c)) (Proc.devRef .tc main_v166)).trans (val4_main_v166 (launchContents m c))),
      (h c main_v91).trans ((congrFun (after_ops (launchContents m c)) (Proc.devRef .tc main_v91)).trans (val4_main_v91 (launchContents m c))),
      (h c main_v126).trans ((congrFun (after_ops (launchContents m c)) (Proc.devRef .tc main_v126)).trans (val4_main_v126 (launchContents m c))),
      (h c main_v143).trans ((congrFun (after_ops (launchContents m c)) (Proc.devRef .tc main_v143)).trans (val4_main_v143 (launchContents m c))),
      (h c main_v163).trans ((congrFun (after_ops (launchContents m c)) (Proc.devRef .tc main_v163)).trans (val4_main_v163 (launchContents m c))),
      (h c main_arg0).trans ((congrFun (after_ops (launchContents m c)) (Proc.devRef .tc main_arg0)).trans (val4_main_arg0 (launchContents m c))),
      (h c main_arg1).trans ((congrFun (after_ops (launchContents m c)) (Proc.devRef .tc main_arg1)).trans (val4_main_arg1 (launchContents m c))),
      (h c main_arg2).trans ((congrFun (after_ops (launchContents m c)) (Proc.devRef .tc main_arg2)).trans (val4_main_arg2 (launchContents m c)))⟩)
    (run_seq scopedRefs_eq scopedSems_eq defs main (fun _ => ops) main_eq (fun _ => ops_sub) m ρ fun _ => ops_fresh)

end Cert.ReferenceIdeal.Line

end
-- ==== Proof.Pair.lean ====
module

public import Idealize.ShloMosaic.Lib.IdealHost

@[expose] public section

/-! One predicted box against one true box: the generalised overlap as the reference writes it, the single quotient
    that the kernel forms instead, and that on finite coordinates the second is the first plus one. -/

noncomputable section

namespace Cert.Yolo

open Idealize.ShloMosaic

/-- The area of the boxes' overlap, each side cut off at zero. -/
def inter (a b c d x y z w : EReal) : EReal :=
  max (min c z - max a x) 0 * max (min d w - max b y) 0

/-- The area of the smallest box that holds both, each side cut off at zero. -/
def hull (a b c d x y z w : EReal) : EReal :=
  max (max c z - min a x) 0 * max (max d w - min b y) 0

/-- The two areas less the overlap. -/
def union (a b c d x y z w : EReal) : EReal :=
  ((c - a) * (d - b) + (z - x) * (w - y)) - inter a b c d x y z w

/-- The generalised overlap: overlap over union, less the share of the hull that the union leaves free. -/
def giou (a b c d x y z w : EReal) : EReal :=
  Ideal.div (inter a b c d x y z w) (union a b c d x y z w)
    - Ideal.div (hull a b c d x y z w - union a b c d x y z w) (hull a b c d x y z w)

/-- The hull's area from the widths, the heights and the signed overlaps. -/
def hull' (a b c d x y z w : EReal) : EReal :=
  max ((c - a) + (z - x) - (min c z - max a x)) 0 * max ((d - b) + (w - y) - (min d w - max b y)) 0

/-- The kernel's quotient. -/
def quot (a b c d x y z w : EReal) : EReal :=
  Ideal.div (inter a b c d x y z w * hull' a b c d x y z w + union a b c d x y z w * union a b c d x y z w)
    (union a b c d x y z w * hull' a b c d x y z w)

theorem div_zero (x : EReal) : Ideal.div x 0 = if 0 < x then ⊤ else ⊥ := by
  rw [Ideal.div, if_pos rfl]

theorem div_real {x y : ℝ} (h : y ≠ 0) : Ideal.div (x : EReal) (y : EReal) = ((x / y : ℝ) : EReal) := by
  rw [Ideal.div_coe h, ← EReal.coe_mul, mul_one_div]

/-- The algebra: with overlap `I`, hull `A` and union `U` real, `(I A + U²) / (U A)` is `I / U - (A - U) / A + 1`,
    at the zeros too as long as an empty hull comes with no overlap and no negative union. -/
theorem quotient_eq (I A U : ℝ) (hI : 0 ≤ I) (hA : 0 ≤ A) (h0 : A = 0 → I = 0) (h : 0 < A ∨ 0 ≤ U) :
    Ideal.div (((I * A + U * U : ℝ)) : EReal) ((U * A : ℝ) : EReal)
      = (Ideal.div (I : EReal) (U : EReal) - Ideal.div ((A - U : ℝ) : EReal) (A : EReal)) + 1 := by
  rcases eq_or_lt_of_le hA with hA0 | hA0
  · have hA0 : A = 0 := hA0.symm
    have hI0 := h0 hA0
    subst hA0 hI0
    have hU : 0 ≤ U := h.resolve_left (lt_irrefl _)
    rcases eq_or_lt_of_le hU with hU0 | hU0
    · subst hU0
      simp [div_zero]
    · have h1 : (0 : EReal) < ((0 * 0 + U * U : ℝ) : EReal) := by
        exact_mod_cast (by nlinarith : (0 : ℝ) < 0 * 0 + U * U)
      have h2 : ¬ (0 : EReal) < ((0 - U : ℝ) : EReal) := by
        rw [not_lt]; exact_mod_cast (by linarith : (0 - U : ℝ) ≤ 0)
      rw [mul_zero U, EReal.coe_zero, div_zero, if_pos h1, div_zero, if_neg h2, ← EReal.coe_zero, div_real hU0.ne']
      simp
      rfl
  · rcases eq_or_ne U 0 with hU0 | hU0
    · subst hU0
      rw [zero_mul A, EReal.coe_zero, div_zero, div_zero, div_real hA0.ne']
      rcases eq_or_lt_of_le hI with hI0 | hI0
      · subst hI0
        simp
      · have h1 : (0 : EReal) < ((I * A + 0 * 0 : ℝ) : EReal) := by
          exact_mod_cast (by nlinarith [mul_pos hI0 hA0] : (0 : ℝ) < I * A + 0 * 0)
        have h2 : (0 : EReal) < (I : EReal) := by exact_mod_cast hI0
        rw [if_pos h1, if_pos h2, sub_eq_add_neg, ← EReal.coe_neg, EReal.top_add_coe]
        rfl
    · rw [div_real (mul_ne_zero hU0 hA0.ne'), div_real hU0, div_real hA0.ne', ← EReal.coe_sub,
        ← EReal.coe_one, ← EReal.coe_add]
      congr 1
      field_simp
      ring

theorem coe_max' (x y : ℝ) : ((max x y : ℝ) : EReal) = max (x : EReal) (y : EReal) :=
  EReal.coe_strictMono.monotone.map_max

theorem coe_min' (x y : ℝ) : ((min x y : ℝ) : EReal) = min (x : EReal) (y : EReal) :=
  EReal.coe_strictMono.monotone.map_min

/-- On finite coordinates, where the hull is proper or the union is not negative, the kernel's quotient is the
    generalised overlap plus one. -/
theorem quot_eq (a b c d x y z w : ℝ)
    (h : 0 < hull a b c d x y z w ∨ 0 ≤ union a b c d x y z w) :
    quot a b c d x y z w = giou a b c d x y z w + 1 := by
  have eI : inter a b c d x y z w = ((max (min c z - max a x) 0 * max (min d w - max b y) 0 : ℝ) : EReal) := by
    simp only [inter, EReal.coe_mul, coe_max', coe_min', EReal.coe_sub, EReal.coe_zero]
  have eA : hull a b c d x y z w = ((max (max c z - min a x) 0 * max (max d w - min b y) 0 : ℝ) : EReal) := by
    simp only [hull, EReal.coe_mul, coe_max', coe_min', EReal.coe_sub, EReal.coe_zero]
  have e1 : ∀ p q r s : ℝ, q - p + (s - r) - (min q s - max p r) = max q s - min p r := by
    intro p q r s
    have h1 := max_add_min q s
    have h2 := max_add_min p r
    linarith
  have eA' : hull' a b c d x y z w = ((max (max c z - min a x) 0 * max (max d w - min b y) 0 : ℝ) : EReal) := by
    rw [← e1, ← e1]
    simp only [hull', EReal.coe_mul, coe_max', coe_min', EReal.coe_sub, EReal.coe_add, EReal.coe_zero]
  set I : ℝ := max (min c z - max a x) 0 * max (min d w - max b y) 0 with hI
  set A : ℝ := max (max c z - min a x) 0 * max (max d w - min b y) 0 with hA
  have eU : union a b c d x y z w = (((c - a) * (d - b) + (z - x) * (w - y) - I : ℝ) : EReal) := by
    simp only [union, eI, EReal.coe_mul, EReal.coe_sub, EReal.coe_add]
  set U : ℝ := (c - a) * (d - b) + (z - x) * (w - y) - I
  rw [eA, eU] at h
  rw [quot, giou, eI, eA, eA', eU, ← EReal.coe_mul, ← EReal.coe_mul, ← EReal.coe_mul, ← EReal.coe_add, ← EReal.coe_sub]
  refine quotient_eq I A U (by positivity) (by positivity) ?_ (h.imp (fun h => by exact_mod_cast h) fun h => by exact_mod_cast h)
  intro h0
  have side : ∀ p q r s : ℝ, max (max q s - min p r) 0 = 0 → max (min q s - max p r) 0 = 0 := by
    intro p q r s hp
    have h1 : max q s - min p r ≤ 0 := by rw [← hp]; exact le_max_left _ _
    refine max_eq_right ?_
    have := le_max_left q s
    have := le_max_right q s
    have := min_le_left q s
    have := min_le_left p r
    have := le_max_left p r
    linarith
  rcases mul_eq_zero.mp h0 with h1 | h1
  · rw [hI, side _ _ _ _ h1, zero_mul]
  · rw [hI, side _ _ _ _ h1, mul_zero]

end Cert.Yolo

end
-- ==== Proof.ArgMax.lean ====
module

public import Idealize.ShloMosaic.Lib.IdealHost
public import Idealize.ShloMosaic.PureOps.Reduce

@[expose] public section

/-! The first place where a finite family of extended reals takes its greatest value, and the two ways of finding it:
    a fold over (value, index) pairs, and the least index among those whose value equals the maximum. -/

noncomputable section

namespace Cert.Yolo

open Idealize.ShloMosaic

/-- `k` is the first place of the greatest value. -/
def FirstMax {n : ℕ} (g : Fin n → EReal) (k : Fin n) : Prop :=
  ∀ p, g p < g k ∨ (g p = g k ∧ k ≤ p)

theorem FirstMax.le {n : ℕ} {g : Fin n → EReal} {k : Fin n} (h : FirstMax g k) (p : Fin n) : g p ≤ g k :=
  (h p).elim le_of_lt fun h => h.1.le

theorem FirstMax.unique {n : ℕ} {g : Fin n → EReal} {k l : Fin n} (hk : FirstMax g k) (hl : FirstMax g l) : k = l := by
  rcases hk l with h | ⟨e, h⟩
  · exact absurd (hl.le k) (not_le.mpr h)
  · rcases hl k with h' | ⟨_, h'⟩
    · exact absurd h' (by rw [e]; exact lt_irrefl _)
    · exact le_antisymm h h'

theorem exists_firstMax {n : ℕ} [NeZero n] (g : Fin n → EReal) : ∃ k, FirstMax g k := by
  obtain ⟨x, -, hx⟩ := Finset.exists_max_image Finset.univ g ⟨0, Finset.mem_univ _⟩
  have hne : (Finset.univ.filter fun p => g p = g x).Nonempty := ⟨x, by simp⟩
  obtain ⟨k, hk, hmin⟩ := Finset.exists_min_image _ id hne
  have hk : g k = g x := (Finset.mem_filter.mp hk).2
  refine ⟨k, fun p => ?_⟩
  rcases lt_or_eq_of_le (hx p (Finset.mem_univ p)) with h | h
  · exact Or.inl (hk ▸ h)
  · exact Or.inr ⟨h.trans hk.symm, hmin p (by simp [h])⟩

/-- The first place of the greatest value. -/
def amax {n : ℕ} [NeZero n] (g : Fin n → EReal) : Fin n := Classical.choose (exists_firstMax g)

theorem amax_spec {n : ℕ} [NeZero n] (g : Fin n → EReal) : FirstMax g (amax g) := Classical.choose_spec (exists_firstMax g)

/-- The fold of `max` is the value there. -/
theorem FirstMax.fold_max {n : ℕ} {g : Fin n → EReal} {k : Fin n} (h : FirstMax g k) :
    (Finset.univ : Finset (Fin n)).fold max ⊥ g = g k := by
  refine le_antisymm ?_ ?_
  · rw [Finset.fold_max_le]
    exact ⟨bot_le, fun p _ => h.le p⟩
  · rw [Finset.le_fold_max]
    exact Or.inr ⟨k, Finset.mem_univ _, le_rfl⟩

theorem add_one_lt {a b : EReal} (h : a < b) : a + 1 < b + 1 := by
  have := EReal.add_lt_add_right_coe h 1
  simpa using this

/-- Adding one everywhere moves the greatest value, not its place. -/
theorem FirstMax.add_one {n : ℕ} {g q : Fin n → EReal} {k : Fin n} (h : FirstMax g k) (hq : ∀ p, q p = g p + 1) :
    FirstMax q k := fun p => by
  rw [hq, hq]
  rcases h p with h | ⟨e, h⟩
  · exact Or.inl (add_one_lt h)
  · exact Or.inr ⟨by rw [e], h⟩

/-! ### The fold over pairs -/

/-- One step of the fold over pairs: the greater value, on equal values the smaller index. -/
def step (a b : EReal × BitVec 32) : EReal × BitVec 32 :=
  if b.1 < a.1 ∨ (a.1 = b.1 ∧ a.2.toInt < b.2.toInt) then a else b

theorem foldl_step (L : List (EReal × BitVec 32)) (a : EReal × BitVec 32) :
    L.foldl step a ∈ a :: L ∧
      ∀ p ∈ a :: L, p.1 < (L.foldl step a).1 ∨ (p.1 = (L.foldl step a).1 ∧ (L.foldl step a).2.toInt ≤ p.2.toInt) := by
  induction L generalizing a with
  | nil => simp
  | cons b L ih =>
    obtain ⟨h1, h2⟩ := ih (step a b)
    rw [List.foldl_cons]
    set r := L.foldl step (step a b)
    have hs := h2 (step a b) (List.mem_cons_self ..)
    constructor
    · rcases List.mem_cons.mp h1 with h | h
      · rw [h, step]
        split <;> simp
      · simp [h]
    · intro p hp
      rcases List.mem_cons.mp hp with rfl | hp
      · by_cases hc : b.1 < p.1 ∨ (p.1 = b.1 ∧ p.2.toInt < b.2.toInt)
        · rwa [step, if_pos hc] at hs
        · rw [step, if_neg hc] at hs
          push Not at hc
          rcases lt_or_eq_of_le hc.1 with h | h
          · rcases hs with h' | ⟨h', _⟩
            · exact Or.inl (h.trans h')
            · exact Or.inl (h' ▸ h)
          · rcases hs with h' | ⟨h', h''⟩
            · exact Or.inl (h ▸ h')
            · exact Or.inr ⟨h.trans h', h''.trans (hc.2 h)⟩
      · rcases List.mem_cons.mp hp with rfl | hp
        · by_cases hc : p.1 < a.1 ∨ (a.1 = p.1 ∧ a.2.toInt < p.2.toInt)
          · rw [step, if_pos hc] at hs
            rcases hc with h | ⟨h, h3⟩
            · rcases hs with h' | ⟨h', _⟩
              · exact Or.inl (h.trans h')
              · exact Or.inl (h' ▸ h)
            · rcases hs with h' | ⟨h', h''⟩
              · exact Or.inl (h ▸ h')
              · exact Or.inr ⟨h.symm.trans h', h''.trans h3.le⟩
          · rwa [step, if_neg hc] at hs
        · exact h2 p (List.mem_cons_of_mem _ hp)

theorem toInt_ofNat {k : ℕ} (h : k < 2 ^ 31) : (BitVec.ofNat 32 k).toInt = k := by
  rw [BitVec.toInt_ofNat', Int.bmod_def]
  omega

/-- The fold from (bottom, 0) over the pairs (value, index) of a family ends at the index of its first greatest value. -/
theorem foldl_step_firstMax {n : ℕ} (hn : n ≤ 2 ^ 31) {g : Fin n → EReal} {k : Fin n} (hk : FirstMax g k)
    (L : List (EReal × BitVec 32)) (hL : ∀ p, p ∈ L ↔ ∃ i : Fin n, (g i, BitVec.ofNat 32 i.val) = p) :
    (L.foldl step (⊥, 0#32)).2 = BitVec.ofNat 32 k.val := by
  obtain ⟨h1, h2⟩ := foldl_step L (⊥, 0#32)
  set r := L.foldl step (⊥, 0#32)
  have ti : ∀ i : Fin n, (BitVec.ofNat 32 i.val).toInt = i.val := fun i => toInt_ofNat (by have := i.isLt; omega)
  have h3 : ∀ i : Fin n, g i < r.1 ∨ (g i = r.1 ∧ r.2.toInt ≤ (i.val : ℤ)) := fun i => by
    have := h2 _ (List.mem_cons_of_mem _ ((hL _).mpr ⟨i, rfl⟩))
    rwa [ti] at this
  rcases List.mem_cons.mp h1 with h | h
  · have hr : r.1 = ⊥ := by rw [h]
    have h0 : r.2 = 0#32 := by rw [h]
    have hb : ∀ i, g i = ⊥ := fun i => (h3 i).elim (fun h => by rw [hr] at h; exact absurd h not_lt_bot) fun h => h.1.trans hr
    have hn0 : 0 < n := k.pos
    rcases hk ⟨0, hn0⟩ with h' | ⟨_, h'⟩
    · rw [hb, hb] at h'
      exact absurd h' (lt_irrefl _)
    · have : k.val = 0 := Nat.le_zero.mp h'
      rw [h0, this]
  · obtain ⟨i, hi⟩ := (hL _).mp h
    have : FirstMax g i := fun p => by
      rcases h3 p with h | ⟨h, h'⟩
      · exact Or.inl (by rw [← hi] at h; exact h)
      · refine Or.inr ⟨by rw [← hi] at h; exact h, ?_⟩
        rw [← hi, ti] at h'
        exact Fin.le_def.mpr (by exact_mod_cast h')
    rw [← hi, hk.unique this]

/-! ### The least index that reaches the maximum -/

theorem minsi_toInt (a b : BitVec 32) : (IntOp.minsi a b).toInt = min a.toInt b.toInt := by
  simp only [IntOp.minsi, BitVec.slt_eq_decide]
  split
  · next h => rw [min_eq_left (le_of_lt (by simpa using h))]
  · next h => rw [min_eq_right (not_lt.mp (by simpa using h))]

/-- The signed minimum of the indices where a family equals its maximum, `n` standing in elsewhere. -/
theorem fold_minsi_firstMax {n : ℕ} (hn : n < 2 ^ 31) {q : Fin n → EReal} {k : Fin n} (hk : FirstMax q k)
    [Std.Commutative (IntOp.minsi (w := 32))] [Std.Associative (IntOp.minsi (w := 32))] (f : Fin n → BitVec 32)
    (hf : ∀ p, f p = if q p = q k then BitVec.ofNat 32 p.val else BitVec.ofNat 32 n) :
    (Finset.univ : Finset (Fin n)).fold IntOp.minsi 2147483647#32 f = BitVec.ofNat 32 k.val := by
  have ti : ∀ i : Fin n, (BitVec.ofNat 32 i.val).toInt = i.val := fun i => toInt_ofNat (by have := i.isLt; omega)
  have tn : (BitVec.ofNat 32 n).toInt = n := toInt_ofNat hn
  apply BitVec.eq_of_toInt_eq
  rw [ti]
  refine le_antisymm ?_ ?_
  · have := (Finset.fold_op_rel_iff_or (op := IntOp.minsi (w := 32)) (s := Finset.univ) (f := f) (b := 2147483647#32)
      (r := fun x y => y.toInt ≤ x.toInt) (c := BitVec.ofNat 32 k.val)
      (fun {x y z} => by rw [minsi_toInt, min_le_iff])).mpr
        (Or.inr ⟨k, Finset.mem_univ _, by rw [hf, if_pos rfl]⟩)
    rwa [ti] at this
  · have := (Finset.fold_op_rel_iff_and (op := IntOp.minsi (w := 32)) (s := Finset.univ) (f := f) (b := 2147483647#32)
      (r := fun x y => x.toInt ≤ y.toInt) (c := BitVec.ofNat 32 k.val)
      (fun {x y z} => by rw [minsi_toInt, le_min_iff])).mpr
        ⟨by rw [ti]; have := k.isLt; simp only [BitVec.reduceToInt]; omega, fun p _ => by
          rw [hf, ti]
          split
          · next h =>
            rw [ti]
            rcases hk p with h' | ⟨_, h'⟩
            · exact absurd h h'.ne
            · exact_mod_cast h'
          · rw [tn]; exact_mod_cast k.isLt.le⟩
    rwa [ti] at this

end Cert.Yolo

end
-- ==== Proof.Spec.lean ====
module

public import proofs.«01_k».proof.Proof.Pair
public import proofs.«01_k».proof.Proof.ArgMax

@[expose] public section

/-! One picture's share of the five sums, as the kernel forms it and as the reference does, over plain functions:
    `P` the predicted boxes, `T` the true ones, `w` the number of true ones as a word. -/

noncomputable section

namespace Cert.Yolo

open Idealize.ShloMosaic

/-- Row `m` counts. -/
def on (w : BitVec 32) (m : Fin 100) : Prop := (BitVec.ofNat 32 m.val).slt w = true

instance (w : BitVec 32) (m : Fin 100) : Decidable (on w m) := inferInstanceAs (Decidable (_ = true))

/-- One for a row that counts, zero for one that does not. -/
def mask (w : BitVec 32) (m : Fin 100) : EReal := if on w m then 1 else 0

variable (P : Fin 8400 → Fin 85 → EReal) (T : Fin 100 → Fin 85 → EReal) (w : BitVec 32)

/-- The kernel's quotient of a pair. -/
def pairQ (m : Fin 100) (p : Fin 8400) : EReal := quot (P p 0) (P p 1) (P p 2) (P p 3) (T m 0) (T m 1) (T m 2) (T m 3)

/-- The generalised overlap of a pair. -/
def pairG (m : Fin 100) (p : Fin 8400) : EReal := giou (P p 0) (P p 1) (P p 2) (P p 3) (T m 0) (T m 1) (T m 2) (T m 3)

/-- The softening term of the cross entropy. -/
def soft (x : EReal) : EReal := Ideal.log1p (Ideal.exp (0 - FloatOps.absf (F := Ideal) (φ := .f32) x))

/-- The cross entropy of a logit against a target. -/
def bce (x t : EReal) : EReal := max x 0 - x * t + soft x

open Classical in
/-- Whether some row that counts chose the box `p`, as a number. -/
def hit (k : Fin 100 → Fin 8400) (p : Fin 8400) : EReal := if ∃ m, on w m ∧ p = k m then 1 else 0

/-- The class term, with the choice `k`. -/
def cls (k : Fin 100 → Fin 8400) : EReal :=
  ∑ m : Fin 100, (∑ c : Fin 80, bce (P (k m) ⟨5 + c.val, by omega⟩) (T m ⟨5 + c.val, by omega⟩)) * mask w m

/-- How many rows count. -/
def count : EReal := ∑ m : Fin 100, mask w m

/-- The kernel's choice. -/
def kerK (m : Fin 100) : Fin 8400 := amax (pairQ P T m)

/-- The reference's choice. -/
def refK (m : Fin 100) : Fin 8400 := amax (pairG P T m)

/-- The kernel's five sums. -/
def ker0 : EReal := ∑ m : Fin 100, (2 - pairQ P T m (kerK P T m)) * mask w m
def ker1 : EReal := ∑ p : Fin 8400, hit w (kerK P T) p * ((max (P p 4) 0 + soft (P p 4)) - P p 4)
def ker2 : EReal := (∑ p : Fin 8400, (max (P p 4) 0 + soft (P p 4)))
  - ∑ p : Fin 8400, hit w (kerK P T) p * (max (P p 4) 0 + soft (P p 4))
def ker3 : EReal := cls P T w (kerK P T)

/-- The reference's. -/
def ref0 : EReal := ∑ m : Fin 100, (1 - pairG P T m (refK P T m)) * mask w m
def ref1 : EReal := ∑ p : Fin 8400, bce (P p 4) 1 * hit w (refK P T) p
def ref2 : EReal := ∑ p : Fin 8400, bce (P p 4) 0 * (1 - hit w (refK P T) p)
def ref3 : EReal := cls P T w (refK P T)

/-- A real number seen as an extended one. -/
def Fin' (x : EReal) : Prop := ∃ r : ℝ, x = (r : EReal)

/-- What the precondition says of one picture. -/
structure Good : Prop where
  fp : ∀ p (k : Fin 85), k.val < 5 → Fin' (P p k)
  ft : ∀ m (k : Fin 85), on w m → k.val < 4 → Fin' (T m k)
  proper : ∀ m p, on w m → 0 < hull (P p 0) (P p 1) (P p 2) (P p 3) (T m 0) (T m 1) (T m 2) (T m 3)
    ∨ 0 ≤ union (P p 0) (P p 1) (P p 2) (P p 3) (T m 0) (T m 1) (T m 2) (T m 3)

variable {P T w}

theorem Good.pair (h : Good P T w) {m : Fin 100} (hm : on w m) (p : Fin 8400) : pairQ P T m p = pairG P T m p + 1 := by
  obtain ⟨a, ha⟩ := h.fp p 0 (by decide)
  obtain ⟨b, hb⟩ := h.fp p 1 (by decide)
  obtain ⟨c, hc⟩ := h.fp p 2 (by decide)
  obtain ⟨d, hd⟩ := h.fp p 3 (by decide)
  obtain ⟨x, hx⟩ := h.ft m 0 hm (by decide)
  obtain ⟨y, hy⟩ := h.ft m 1 hm (by decide)
  obtain ⟨z, hz⟩ := h.ft m 2 hm (by decide)
  obtain ⟨v, hv⟩ := h.ft m 3 hm (by decide)
  have hp := h.proper m p hm
  unfold pairQ pairG
  rw [ha, hb, hc, hd, hx, hy, hz, hv] at hp ⊢
  exact quot_eq a b c d x y z v hp

theorem Good.choice (h : Good P T w) {m : Fin 100} (hm : on w m) : kerK P T m = refK P T m :=
  (amax_spec (pairQ P T m)).unique (FirstMax.add_one (amax_spec (pairG P T m)) (h.pair hm))

theorem two_sub (x : EReal) : 2 - (x + 1) = 1 - x := by
  induction x with
  | bot => rfl
  | top => rfl
  | coe r =>
    have h2 : (2 : EReal) = ((2 : ℝ) : EReal) := rfl
    rw [h2, ← EReal.coe_one, ← EReal.coe_add, ← EReal.coe_sub, ← EReal.coe_sub]
    congr 1
    ring

theorem mask_off {m : Fin 100} (h : ¬ on w m) : mask w m = 0 := if_neg h

theorem Good.eq0 (h : Good P T w) : ker0 P T w = ref0 P T w := by
  refine Finset.sum_congr rfl fun m _ => ?_
  by_cases hm : on w m
  · rw [h.pair hm, h.choice hm, two_sub]
  · rw [mask_off hm, mul_zero, mul_zero]

theorem Good.hit_eq (h : Good P T w) (p : Fin 8400) : hit w (kerK P T) p = hit w (refK P T) p := by
  unfold hit
  congr 1
  refine propext (exists_congr fun m => and_congr_right fun hm => ?_)
  rw [h.choice hm]

theorem Good.eq3 (h : Good P T w) : ker3 P T w = ref3 P T w := by
  unfold ker3 ref3 cls
  refine Finset.sum_congr rfl fun m _ => ?_
  by_cases hm : on w m
  · rw [h.choice hm]
  · rw [mask_off hm, mul_zero, mul_zero]

theorem soft_real (r : ℝ) : ∃ s : ℝ, soft (r : EReal) = (s : EReal) := by
  refine ⟨Real.log (1 + Real.exp (0 - max r (-r))), ?_⟩
  have h1 : (0 : EReal) - FloatOps.absf (F := Ideal) (φ := .f32) ((r : ℝ) : EReal) = ((0 - max r (-r) : ℝ) : EReal) := by
    rw [EReal.coe_sub, coe_max', EReal.coe_neg, EReal.coe_zero]
    rfl
  have h2 : Ideal.exp ((0 - max r (-r) : ℝ) : EReal) = ((Real.exp (0 - max r (-r)) : ℝ) : EReal) := rfl
  unfold soft Ideal.log1p
  rw [h1, h2, ← EReal.coe_one, ← EReal.coe_add]
  exact if_neg (not_le.mpr (by positivity))

theorem Good.eq1 (h : Good P T w) : ker1 P T w = ref1 P T w := by
  refine Finset.sum_congr rfl fun p _ => ?_
  rw [h.hit_eq, mul_comm]
  obtain ⟨x, hx⟩ := h.fp p 4 (by decide)
  obtain ⟨s, hs⟩ := soft_real x
  rw [bce, hx, hs, mul_one, ← EReal.coe_zero, ← coe_max', ← EReal.coe_add, ← EReal.coe_sub, ← EReal.coe_sub, ← EReal.coe_add]
  congr 2
  ring

/-- A sum of reals, seen as extended ones. -/
theorem sum_coe {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem sum_split {ι : Type} (S : Finset ι) (s o : ι → ℝ) :
    (∑ i ∈ S, (s i : EReal)) - ∑ i ∈ S, (o i : EReal) * (s i : EReal) = ∑ i ∈ S, (s i : EReal) * (1 - (o i : EReal)) := by
  simp only [← EReal.coe_mul, ← EReal.coe_one, ← EReal.coe_sub, sum_coe]
  rw [← Finset.sum_sub_distrib]
  congr 1
  refine Finset.sum_congr rfl fun p _ => ?_
  ring

theorem Good.eq2 (h : Good P T w) : ker2 P T w = ref2 P T w := by
  have hs : ∀ p, ∃ s : ℝ, max (P p 4) 0 + soft (P p 4) = (s : EReal) := fun p => by
    obtain ⟨x, hx⟩ := h.fp p 4 (by decide)
    obtain ⟨s, hs⟩ := soft_real x
    exact ⟨max x 0 + s, by rw [hx, hs, ← EReal.coe_zero, ← coe_max', ← EReal.coe_add]⟩
  choose s hs using hs
  have hb : ∀ p, bce (P p 4) 0 = (s p : EReal) := fun p => by rw [bce, mul_zero, sub_zero, hs]
  have ho : ∀ p, ∃ o : ℝ, hit w (refK P T) p = (o : EReal) := fun p => by
    unfold hit
    split
    · exact ⟨1, rfl⟩
    · exact ⟨0, rfl⟩
  choose o ho using ho
  unfold ker2 ref2
  simp only [h.hit_eq, hs, hb, ho]
  exact sum_split _ s o

end Cert.Yolo

end
-- ==== Proof.KerLane.lean ====
module

public import proofs.«01_k».proof.Proof.Gen.KernelIdeal.Skeleton
public import proofs.«01_k».proof.Proof.Spec
public import Idealize.ShloMosaic.Lib.Pointwise

@[expose] public section

/-! What one grid step of the kernel computes from its blocks, read element by element. -/

set_option maxRecDepth 16384

noncomputable section

namespace Cert.Yolo.Ker

open Idealize.ShloMosaic Cert.KernelIdeal Cert.KernelIdeal.Gen

variable (v0 : FVec Ideal S1x5x8400 .f32) (v2 : FVec Ideal S1x100x85 .f32)

/-- The quotients of every true box against every predicted one. -/
def Q : FVec Ideal S100x8400 .f32 :=
  k0_pay24 (k0_pay15 v0) (k0_pay17 v2) (k0_pay18 v0 v2) (k0_pay19 v0 v2) (k0_pay20 v0 v2) (k0_pay21 v0 v2) (k0_pay22 v0) (k0_pay23 v2)

theorem Q_apply (m : Fin 100) (p : Fin 8400) : Q v0 v2 (ix2 m p)
    = quot (v0 (ix3 0 0 p)) (v0 (ix3 0 1 p)) (v0 (ix3 0 2 p)) (v0 (ix3 0 3 p))
        (v2 (ix3 0 m 0)) (v2 (ix3 0 m 1)) (v2 (ix3 0 m 2)) (v2 (ix3 0 m 3)) := by
  pointwise [Q, k0_pay2, k0_pay3, k0_pay5, k0_pay6, k0_pay7, k0_pay8, k0_pay10, k0_pay11, k0_pay12, k0_pay13, k0_pay14,
    k0_pay15, k0_pay16, k0_pay17, k0_pay18, k0_pay19, k0_pay20, k0_pay21, k0_pay22, k0_pay23, k0_pay24, quot, inter, hull', union]

/-- The best quotient of every true box. -/
def C : FVec Ideal S100x1 .f32 :=
  k0_pay25 (k0_pay15 v0) (k0_pay17 v2) (k0_pay18 v0 v2) (k0_pay19 v0 v2) (k0_pay20 v0 v2) (k0_pay21 v0 v2) (k0_pay22 v0) (k0_pay23 v2)

/-- The table that picks, for every true box, the predicted box of the best quotient. -/
def H : FVec Ideal S100x8400 .f32 :=
  k0_pay26 (k0_pay15 v0) (k0_pay17 v2) (k0_pay18 v0 v2) (k0_pay19 v0 v2) (k0_pay20 v0 v2) (k0_pay21 v0 v2) (k0_pay22 v0) (k0_pay23 v2)

/-- The predicted box of the best quotient. -/
def K (m : Fin 100) : Fin 8400 := amax fun p => Q v0 v2 (ix2 m p)

theorem neg_inf : Ideal.ofBits .f32 0xFF800000#32 = (⊥ : EReal) := by
  simp [Ideal.ofBits, Ideal.ieee]

theorem C_apply (m : Fin 100) : C v0 v2 (ix2 m 0) = Q v0 v2 (ix2 m (K v0 v2 m)) := by
  have h := FirstMax.fold_max (amax_spec fun p => Q v0 v2 (ix2 m p))
  have e : C v0 v2 = shapeCast S100x1 (multiReduction .maximumf [1] S100 (Q v0 v2) 0xFF800000#32 reduces_S100x8400_S100 (.inl rfl) rfl) shapeCasts_S100_S100x1 := rfl
  rw [e, K]
  generalize Q v0 v2 = q at *
  pointwise []
  rw [neg_inf, h]

/-- A comparison's bit, widened and made a number. -/
theorem num_bit (b : Prop) [Decidable b] :
    (FloatOps.sitofp .f32 (BitVec.setWidth 32 (BitVec.ofBool (decide b))) : Ideal .f32) = if b then 1 else 0 := by
  have e : (FloatOps.sitofp .f32 (BitVec.setWidth 32 (BitVec.ofBool (decide b))) : Ideal .f32)
      = (((BitVec.setWidth 32 (BitVec.ofBool (decide b))).toInt : ℝ) : EReal) := rfl
  rw [e]
  by_cases hb : b
  · rw [if_pos hb, decide_eq_true hb]
    have : (BitVec.setWidth 32 (BitVec.ofBool true)).toInt = 1 := by decide
    rw [this, Int.cast_one, EReal.coe_one]
  · rw [if_neg hb, decide_eq_false hb]
    have : (BitVec.setWidth 32 (BitVec.ofBool false)).toInt = 0 := by decide
    rw [this, Int.cast_zero, EReal.coe_zero]

theorem word_eq (a b : BitVec 32) : IntOp.cmpi .eq a b = BitVec.ofBool (decide (a = b)) := by
  rfl

theorem word_slt (a b : BitVec 32) : IntOp.cmpi .slt a b = BitVec.ofBool (decide (a.slt b = true)) := by
  simp [IntOp.cmpi]

theorem H_apply (m : Fin 100) (p : Fin 8400) : H v0 v2 (ix2 m p) = if p = K v0 v2 m then 1 else 0 := by
  have hC := C_apply v0 v2 m
  have e : H v0 v2 = sitofp .f32 (extui 32 (cmpi .eq (iota .tc S100x8400 32 [1] iota_S100x8400_d1_w32)
    (broadcastTo S100x8400 (shapeCast S100x1 (multiReductionI .minsi [1] S100 (select (cmpf .oeq (Q v0 v2)
      (broadcastTo S100x8400 (C v0 v2) broadcasts_S100x1_S100x8400)) (iota .tc S100x8400 32 [1] iota_S100x8400_d1_w32)
      (broadcast S100x8400 8400#32)) 2147483647#32 reduces_S100x8400_S100 rfl) shapeCasts_S100_S100x1)
      broadcasts_S100x1_S100x8400)) natLt_1_32) := rfl
  rw [e]
  unfold K at *
  generalize Q v0 v2 = q at *
  generalize C v0 v2 = cc at *
  pointwise []
  have hf := fold_minsi_firstMax (n := 8400) (by norm_num) (amax_spec fun p => q (ix2 m p))
    (fun x => if q (ix2 m x) = cc (ix2 m 0) then BitVec.ofNat 32 x.val else 8400#32) (fun x => by rw [hC])
  rw [hf]
  generalize (amax fun p => q (ix2 m p)) = k
  rw [word_eq, num_bit]
  refine if_congr ⟨fun h => ?_, fun h => by rw [h]⟩ rfl rfl
  have h' := congrArg BitVec.toNat h
  have hp := p.isLt
  have hk := k.isLt
  simp only [BitVec.toNat_ofNat] at h'
  exact Fin.ext (by omega)

/-- The predicted values at the box of the best quotient. -/
def cand (v1 : FVec Ideal S1x8400x85 .f32) : FVec Ideal S100x85 .f32 :=
  k0_pay27 (k0_pay15 v0) (k0_pay17 v2) (k0_pay18 v0 v2) (k0_pay19 v0 v2) (k0_pay20 v0 v2) (k0_pay21 v0 v2) (k0_pay22 v0) (k0_pay23 v2) v1

theorem cand_apply (v1 : FVec Ideal S1x8400x85 .f32) (m : Fin 100) (c : Fin 85) :
    cand v0 v2 v1 (ix2 m c) = v1 (ix3 0 (K v0 v2 m) c) := by
  have hH := H_apply v0 v2 m
  have e : cand v0 v2 v1 = matmul dot_S100x8400_S8400x85_S100x85_1_0_0_1_n_n none (H v0 v2)
    (shapeCast S8400x85 v1 shapeCasts_S1x8400x85_S8400x85) (constant S100x85 .f32 0x00000000#32) := rfl
  rw [e]
  generalize H v0 v2 = h at *
  pointwise [hH]
  rw [Finset.sum_eq_single (K v0 v2 m) (fun p _ hp => by rw [if_neg hp, zero_mul])
    (fun h => absurd (Finset.mem_univ _) h), if_pos rfl, one_mul]

/-- Which true boxes count. -/
def M (w : BitVec 32) : FVec Ideal S100x1 .f32 := k0_pay4 (F := Ideal) w

theorem M_apply (w : BitVec 32) (m : Fin 100) : M w (ix2 m 0) = mask w m := by
  pointwise [M, k0_pay4]
  rw [word_slt, num_bit]
  unfold mask
  exact if_congr Iff.rfl rfl rfl

/-- Which predicted boxes some counted true box chose. -/
def B (w : BitVec 32) : FVec Ideal S1x8400 .f32 :=
  k0_pay28 (M w) (k0_pay15 v0) (k0_pay17 v2) (k0_pay18 v0 v2) (k0_pay19 v0 v2) (k0_pay20 v0 v2) (k0_pay21 v0 v2) (k0_pay22 v0) (k0_pay23 v2)

/-- The maximum of products of two indicators: one where some index has both, for a family that is not empty. -/
theorem fold_indicators {n : ℕ} [NeZero n] (a b : Fin n → Prop) [DecidablePred a] [DecidablePred b] [Decidable (∃ m, b m ∧ a m)] :
    (Finset.univ : Finset (Fin n)).fold max (⊥ : EReal) (fun x => (if a x then 1 else 0) * if b x then 1 else 0)
      = if ∃ m, b m ∧ a m then 1 else 0 := by
  have hv : ∀ x, ((if a x then 1 else 0) * if b x then 1 else 0 : EReal) = if b x ∧ a x then 1 else 0 := fun x => by
    by_cases ha : a x <;> by_cases hb : b x <;> simp [ha, hb]
  simp only [hv]
  have h := FirstMax.fold_max (amax_spec fun x : Fin n => (if b x ∧ a x then 1 else 0 : EReal))
  have hle := (amax_spec fun x : Fin n => (if b x ∧ a x then 1 else 0 : EReal)).le
  rw [h]
  generalize (amax fun x : Fin n => (if b x ∧ a x then 1 else 0 : EReal)) = k at *
  by_cases he : ∃ m, b m ∧ a m
  · rw [if_pos he]
    obtain ⟨m, hm⟩ := he
    by_cases hk : b k ∧ a k
    · exact if_pos hk
    · have := hle m
      simp only [if_pos hm, if_neg hk] at this
      exact absurd this (not_le.mpr zero_lt_one)
  · rw [if_neg he, if_neg (fun hk => he ⟨k, hk⟩)]

theorem B_apply (w : BitVec 32) (p : Fin 8400) : B v0 v2 w (ix2 0 p) = hit w (K v0 v2) p := by
  have e : B v0 v2 w = shapeCast S1x8400 (multiReduction .maximumf [0] S8400 (mulf (H v0 v2)
    (broadcastTo S100x8400 (M w) broadcasts_S100x1_S100x8400)) 0xFF800000#32 reduces_S100x8400_S8400 (.inl rfl) rfl)
    shapeCasts_S8400_S1x8400 := rfl
  rw [e]
  have hH := fun m => H_apply v0 v2 m p
  have hM := M_apply w
  generalize H v0 v2 = h at *
  generalize M w = mm at *
  pointwise [hH, hM]
  rw [neg_inf]
  classical
  unfold mask hit
  convert fold_indicators (fun m => p = K v0 v2 m) (on w)

theorem two : Ideal.ofBits .f32 0x40000000#32 = (2 : EReal) := by
  simp [Ideal.ofBits, Ideal.ieee, -EReal.coe_mul]
  have : ((8388608 : ℝ) * (2 ^ 22)⁻¹) = 2 := by norm_num
  rw [this]
  rfl

variable (v3 : FVec Ideal S100x85 .f32) (v10 v68 : FVec Ideal S100x1 .f32) (v82 : FVec Ideal S100x85 .f32)
    (v86 v15 : FVec Ideal S1x8400 .f32)

theorem soft_apply (p : Fin 8400) : k0_pay29 v15 (ix2 0 p) = max (v15 (ix2 0 p)) 0 + soft (v15 (ix2 0 p)) := by
  pointwise [k0_pay29, soft]

theorem lane0 : k0_pay1 (k0_pay32 v3 v10 v68 v82 v86 (k0_pay29 v15) (k0_pay30 v15) (k0_pay31 v15)) (ix3 0 0 0)
    = ∑ m : Fin 100, (2 - v68 (ix2 m 0)) * v10 (ix2 m 0) := by
  generalize k0_pay29 v15 = z at *
  generalize k0_pay30 v15 = z' at *
  generalize k0_pay31 v15 = z'' at *
  pointwise [k0_pay1, k0_pay32]
  simp only [two, Fin.sum_univ_one]

theorem lane1 : k0_pay1 (k0_pay32 v3 v10 v68 v82 v86 (k0_pay29 v15) (k0_pay30 v15) (k0_pay31 v15)) (ix3 0 0 1)
    = ∑ p : Fin 8400, v86 (ix2 0 p) * ((max (v15 (ix2 0 p)) 0 + soft (v15 (ix2 0 p))) - v15 (ix2 0 p)) := by
  have h29 := soft_apply v15
  generalize k0_pay31 v15 = z'' at *
  unfold k0_pay30
  generalize k0_pay29 v15 = z at *
  pointwise [k0_pay1, k0_pay32, h29]
  simp only [Fin.sum_univ_one]

theorem lane2 : k0_pay1 (k0_pay32 v3 v10 v68 v82 v86 (k0_pay29 v15) (k0_pay30 v15) (k0_pay31 v15)) (ix3 0 0 2)
    = (∑ p : Fin 8400, (max (v15 (ix2 0 p)) 0 + soft (v15 (ix2 0 p))))
      - ∑ p : Fin 8400, v86 (ix2 0 p) * (max (v15 (ix2 0 p)) 0 + soft (v15 (ix2 0 p))) := by
  have h29 := soft_apply v15
  generalize k0_pay30 v15 = z'' at *
  unfold k0_pay31
  generalize k0_pay29 v15 = z at *
  pointwise [k0_pay1, k0_pay32, h29]
  simp only [Fin.sum_univ_one]

theorem lane3 : k0_pay1 (k0_pay32 v3 v10 v68 v82 v86 (k0_pay29 v15) (k0_pay30 v15) (k0_pay31 v15)) (ix3 0 0 3)
    = ∑ m : Fin 100, (∑ c : Fin 80, bce (v82 (ix2 m ⟨5 + c.val, by omega⟩)) (v3 (ix2 m ⟨5 + c.val, by omega⟩))) * v10 (ix2 m 0) := by
  generalize k0_pay29 v15 = z at *
  generalize k0_pay30 v15 = z' at *
  generalize k0_pay31 v15 = z'' at *
  pointwise [k0_pay1, k0_pay32, bce, soft]
  simp only [Fin.sum_univ_one]

theorem lane4 : k0_pay1 (k0_pay32 v3 v10 v68 v82 v86 (k0_pay29 v15) (k0_pay30 v15) (k0_pay31 v15)) (ix3 0 0 4)
    = ∑ m : Fin 100, v10 (ix2 m 0) := by
  generalize k0_pay29 v15 = z at *
  generalize k0_pay30 v15 = z' at *
  generalize k0_pay31 v15 = z'' at *
  pointwise [k0_pay1, k0_pay32]
  simp only [Fin.sum_univ_one]

/-- What one grid step leaves in its block of the result. -/
def block (v1 : FVec Ideal S1x8400x85 .f32) (w : BitVec 32) : FVec Ideal S1x1x8 .f32 :=
  k0_pay1 (k0_pay32 (k0_pay3 v2) (M w) (C v0 v2) (cand v0 v2 v1) (B v0 v2 w) (k0_pay29 (k0_pay9 v0)) (k0_pay30 (k0_pay9 v0)) (k0_pay31 (k0_pay9 v0)))

/-- A column of the box and objectness columns, among all columns. -/
def col (k : Fin 5) : Fin 85 := ⟨k.val, by omega⟩

variable {v0 v2} {v1 : FVec Ideal S1x8400x85 .f32} {P : Fin 8400 → Fin 85 → EReal} {T : Fin 100 → Fin 85 → EReal} (w : BitVec 32)
  (h0 : ∀ (k : Fin 5) (p : Fin 8400), v0 (ix3 0 k p) = P p (col k)) (h1 : ∀ p k, v1 (ix3 0 p k) = P p k)
  (h2 : ∀ m k, v2 (ix3 0 m k) = T m k)

include h0 h2 in
theorem Q_pair (m : Fin 100) (p : Fin 8400) : Q v0 v2 (ix2 m p) = pairQ P T m p := by
  rw [Q_apply, h0, h0, h0, h0, h2, h2, h2, h2]
  rfl

include h0 h2 in
theorem K_ker (m : Fin 100) : K v0 v2 m = kerK P T m := by
  unfold K kerK
  congr 1
  exact funext fun p => Q_pair h0 h2 m p

include h0 in
theorem logit (p : Fin 8400) : k0_pay9 (F := Ideal) v0 (ix2 0 p) = P p 4 := by
  have : k0_pay9 (F := Ideal) v0 (ix2 0 p) = v0 (ix3 0 4 p) := by pointwise [k0_pay9, k0_pay2]
  rw [this, h0]
  rfl

include h2 in
theorem target (m : Fin 100) (c : Fin 85) : k0_pay3 (F := Ideal) v2 (ix2 m c) = T m c := by
  have : k0_pay3 (F := Ideal) v2 (ix2 m c) = v2 (ix3 0 m c) := by pointwise [k0_pay3]
  rw [this, h2]

include h0 h2 in
theorem block0 : block v0 v2 v1 w (ix3 0 0 0) = ker0 P T w := by
  rw [block, lane0]
  refine Finset.sum_congr rfl fun m _ => ?_
  rw [C_apply, M_apply, Q_pair h0 h2, K_ker h0 h2]

include h0 h2 in
theorem block1 : block v0 v2 v1 w (ix3 0 0 1) = ker1 P T w := by
  rw [block, lane1]
  refine Finset.sum_congr rfl fun p _ => ?_
  rw [B_apply, logit h0, funext fun m => K_ker h0 h2 m]

include h0 h2 in
theorem block2 : block v0 v2 v1 w (ix3 0 0 2) = ker2 P T w := by
  rw [block, lane2]
  unfold ker2
  refine congrArg₂ (· - ·) (Finset.sum_congr rfl fun p _ => ?_) (Finset.sum_congr rfl fun p _ => ?_)
  · rw [logit h0]
  · rw [B_apply, logit h0, funext fun m => K_ker h0 h2 m]

include h0 h1 h2 in
theorem block3 : block v0 v2 v1 w (ix3 0 0 3) = ker3 P T w := by
  rw [block, lane3]
  unfold ker3 cls
  refine Finset.sum_congr rfl fun m _ => ?_
  rw [M_apply]
  congr 1
  refine Finset.sum_congr rfl fun c _ => ?_
  rw [cand_apply, h1, K_ker h0 h2, target h2]

theorem block4 : block v0 v2 v1 w (ix3 0 0 4) = count w := by
  rw [block, lane4]
  refine Finset.sum_congr rfl fun m _ => ?_
  rw [M_apply]

end Cert.Yolo.Ker

end
-- ==== Proof.Total.lean ====
module

public import proofs.«01_k».proof.Proof.Spec

@[expose] public section

/-! The four weighted losses and their total, of the sums over the batch. -/

noncomputable section

namespace Cert.Yolo

open Idealize.ShloMosaic

/-- The box loss: the mean over the batch, weighed by 5. -/
def coordOf (s : EReal) : EReal := Ideal.div s (Ideal.ofBits .f32 0x41800000#32) * Ideal.ofBits .f32 0x40A00000#32

/-- The objectness loss: the mean over the batch, weighed by 2. -/
def objOf (s : EReal) : EReal := Ideal.div s (Ideal.ofBits .f32 0x41800000#32) * Ideal.ofBits .f32 0x40000000#32

/-- The loss where no box is: the mean over the batch, weighed by a half. -/
def noobjOf (s : EReal) : EReal := Ideal.div s (Ideal.ofBits .f32 0x41800000#32) * Ideal.ofBits .f32 0x3F000000#32

/-- The class loss: the mean over the true boxes, of which at least one is counted, weighed by 1. -/
def clsOf (s n : EReal) : EReal := Ideal.div s (max n (Ideal.ofBits .f32 0x3F800000#32)) * Ideal.ofBits .f32 0x3F800000#32

end Cert.Yolo

end
-- ==== Proof.KerRun.lean ====
module

public import proofs.«01_k».proof.Proof.KerLane
public import proofs.«01_k».proof.Proof.Total
public import proofs.«01_k».proof.Proof.Gen.KernelIdeal.Frame
public import Idealize.ShloMosaic.Lib.Pipeline.Value
public import Idealize.ShloMosaic.Lib.VecWindow

@[expose] public section

/-! The kernel's run: what its output array holds after every block is written back, and what the operations after
    the call make of it. -/

set_option maxRecDepth 16384

noncomputable section

namespace Cert.Yolo.Run

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg) (hO : Ok m)

/-- Loading a whole window gives what the window was filled with. -/
theorem ld0 {A B C : ℕ} (a : Memref sig .tc .vmem ⟨3, ![A, B, C]⟩ .f32) (h : a.IsWhole) (x : Vec Ideal ⟨3, ![A, B, C]⟩ .f32)
    (inb : ∀ d, (![0, 0, 0] : Fin 3 → ℕ) d + (⟨3, ![A, B, C]⟩ : Shape).size d ≤ (⟨3, ![A, B, C]⟩ : Shape).size d) :
    View.readAt (Elt Ideal) a.view (Rect.unit (s := ⟨3, ![A, B, C]⟩) ![0, 0, 0] (⟨3, ![A, B, C]⟩ : Shape).size inb).toLoadRect (h.unread x) = x := by
  have h0 : (![0, 0, 0] : Fin 3 → ℕ) = fun _ => 0 := by funext d; fin_cases d <;> rfl
  refine Eq.trans ?_ (View.ld_unit_zero (S := ⟨3, ![A, B, C]⟩) (Val := Elt Ideal) h0 inb x)
  rw [View.readAt_unit a.view _ inb rfl inb, Memref.IsWhole.read_unread]
  rfl

theorem ld_0 (a : Memref sig .tc .vmem S1x5x8400 .f32) (h : a.IsWhole) (x : Vec Ideal S1x5x8400 .f32) :
    View.readAt (Elt Ideal) a.view (Rect.unit ![0, 0, 0] ![1, 5, 8400] inb_S1x5x8400_S1x5x8400_0_0_0).toLoadRect (h.unread x) = x :=
  ld0 a h x _

theorem ld_1 (a : Memref sig .tc .vmem S1x8400x85 .f32) (h : a.IsWhole) (x : Vec Ideal S1x8400x85 .f32) :
    View.readAt (Elt Ideal) a.view (Rect.unit ![0, 0, 0] ![1, 8400, 85] inb_S1x8400x85_S1x8400x85_0_0_0).toLoadRect (h.unread x) = x :=
  ld0 a h x _

theorem ld_2 (a : Memref sig .tc .vmem S1x100x85 .f32) (h : a.IsWhole) (x : Vec Ideal S1x100x85 .f32) :
    View.readAt (Elt Ideal) a.view (Rect.unit ![0, 0, 0] ![1, 100, 85] inb_S1x100x85_S1x100x85_0_0_0).toLoadRect (h.unread x) = x :=
  ld0 a h x _

/-- The count the kernel reads for its program's batch element. -/
def word (c : Dev nD) (i : grid0.Coords) (x : TbBuf0 (F := Ideal) c tbM0_0) : BitVec 32 :=
  kernelRun0_A.sl.r c i x

theorem word_eq (c : Dev nD) (i : grid0.Coords) (x : TbBuf0 (F := Ideal) c tbM0_0) :
    word c i x = x (ix1 (i 0)) := by
  unfold word kernelRun0_A.sl.r
  rw [View.readAt_apply]
  refine congrArg x ?_
  funext d
  fin_cases d
  refine Fin.ext ?_
  have e : ∀ k : Fin 16, (Scalar.indexCast (BitVec.ofNat 32 k.val)).toNat + 1 * 0 = k.val := by decide
  exact e (i 0)

/-- What the kernel leaves in its output window, of the blocks it is given. -/
theorem out_eq (c : Dev nD) (i : grid0.Coords) (a0 : Memref sig .tc .vmem S1x5x8400 .f32) (h0 : a0.IsWhole)
    (a1 : Memref sig .tc .vmem S1x8400x85 .f32) (h1 : a1.IsWhole) (a2 : Memref sig .tc .vmem S1x100x85 .f32) (h2 : a2.IsWhole)
    (a3 : Memref sig .tc .vmem S1x1x8 .f32) (h3 : a3.IsWhole)
    (x0 : Vec Ideal S1x5x8400 .f32) (x1 : Vec Ideal S1x8400x85 .f32) (x2 : Vec Ideal S1x100x85 .f32) (xt : TbBuf0 (F := Ideal) c tbM0_0) :
    out0_A_3 c i a0 h0 a1 h1 a2 h2 a3 h3 x0 x1 x2 xt = Ker.block x0 x2 x1 (word c i xt) := by
  unfold out0_A_3 kernelRun0_A
  dsimp only
  rw [View.read_writes_full]
  unfold kernelRun0_A.sl.r_18 kernelRun0_A.sl.r_17 kernelRun0_A.sl.r_16 kernelRun0_A.sl.r_15 kernelRun0_A.sl.r_14 kernelRun0_A.sl.r_13 kernelRun0_A.sl.r_12
  unfold kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1
  have e0 := ld_0 a0 h0 x0
  have e1 := ld_1 a1 h1 x1
  have e2 := ld_2 a2 h2 x2
  rw [e0, e1, e2]
  unfold Ker.block Ker.C Ker.cand Ker.B Ker.M word
  rfl

/-- What the kernel leaves in its output window at a grid point. -/
theorem outsAt_eq (c : Dev nD) (t : Fin (cfgM m hO).N) :
    outsAt0 m hO c t = Ker.block (iblk m hO c 0 t) (iblk m hO c 2 t) (iblk m hO c 1 t) (word c (grid0.coords t) (tbl m 0)) :=
  out_eq c (grid0.coords t) _ _ _ _ _ _ _ _ _ _ _ _

/-- The batch element a grid point works on. -/
def bat (t : Fin (cfgM m hO).N) : Fin 16 := grid0.coords t 0

theorem iblk0_apply (c : Dev nD) (t : Fin (cfgM m hO).N) (k : Fin 5) (p : Fin 8400) :
    iblk m hO c 0 t (ix3 0 k p) = V m c main_v1 (ix3 (bat m hO t) k p) := by
  unfold iblk
  refine (View.read_apply _ _).trans ?_
  refine congrArg (V m c main_v1) ?_
  have e : ∀ q : Fin 16, (BitVec.ofNat 32 q.val).toNat * 1 + 1 * 0 = q.val := by decide
  funext d
  refine Fin.ext ?_
  match d with
  | ⟨0, _⟩ => exact e (bat m hO t)
  | ⟨1, _⟩ => show 0 * 5 + 1 * k.val = k.val; omega
  | ⟨2, _⟩ => show 0 * 8400 + 1 * p.val = p.val; omega

theorem iblk1_apply (c : Dev nD) (t : Fin (cfgM m hO).N) (p : Fin 8400) (k : Fin 85) :
    iblk m hO c 1 t (ix3 0 p k) = V m c main_arg0 (ix3 (bat m hO t) p k) := by
  unfold iblk
  refine (View.read_apply _ _).trans ?_
  refine congrArg (V m c main_arg0) ?_
  have e : ∀ q : Fin 16, (BitVec.ofNat 32 q.val).toNat * 1 + 1 * 0 = q.val := by decide
  funext d
  refine Fin.ext ?_
  match d with
  | ⟨0, _⟩ => exact e (bat m hO t)
  | ⟨1, _⟩ => show 0 * 8400 + 1 * p.val = p.val; omega
  | ⟨2, _⟩ => show 0 * 85 + 1 * k.val = k.val; omega

theorem iblk2_apply (c : Dev nD) (t : Fin (cfgM m hO).N) (n : Fin 100) (k : Fin 85) :
    iblk m hO c 2 t (ix3 0 n k) = V m c main_arg1 (ix3 (bat m hO t) n k) := by
  unfold iblk
  refine (View.read_apply _ _).trans ?_
  refine congrArg (V m c main_arg1) ?_
  have e : ∀ q : Fin 16, (BitVec.ofNat 32 q.val).toNat * 1 + 1 * 0 = q.val := by decide
  funext d
  refine Fin.ext ?_
  match d with
  | ⟨0, _⟩ => exact e (bat m hO t)
  | ⟨1, _⟩ => show 0 * 100 + 1 * n.val = n.val; omega
  | ⟨2, _⟩ => show 0 * 85 + 1 * k.val = k.val; omega

/-- The transposed box and objectness columns, as the arguments hold them. -/
theorem v1_apply (c : Dev nD) (b : Fin 16) (k : Fin 5) (p : Fin 8400) :
    V m c main_v1 (ix3 b k p) = m (c, main_arg0) (ix3 b p ⟨k.val, by omega⟩) := by
  show StableHlo.after hostOps0 (fun r => m (c, r)) (Proc.devRef .tc main_v1) (ix3 b k p) = _
  after_results_simp
  pointwise [main_v1]

/-- The grid point of a batch element. -/
def pt (b : Fin 16) : Fin (cfgM m hO).N := ⟨b.val, by show b.val < grid0.N; rw [N_0]; exact b.isLt⟩

theorem bat_val (t : Fin (cfgM m hO).N) : (bat m hO t).val = t.val := by
  have e : ∀ t : Fin grid0.N, (grid0.coords t 0).val = t.val := by
    intro t
    rcases fin_N0 t with h | h | h | h | h | h | h | h | h | h | h | h | h | h | h | h <;> rw [h] <;> decide +kernel
  exact e t

theorem bat_pt (b : Fin 16) : bat m hO (pt m hO b) = b := Fin.ext (bat_val m hO _)

theorem pt_bat (t : Fin (cfgM m hO).N) : pt m hO (bat m hO t) = t := Fin.ext (bat_val m hO t)

/-- What the output array ends holding: per batch element the lanes of its block. -/
def final (c : Dev nD) : Buf (Elt Ideal) ((c : Thread nD τ).loc main_v2) :=
  fun i => outsAt0 m hO c (pt m hO (i 0)) (ix3 0 0 (i 2))

/-- Where an element of a point's output block lies in the output array. -/
def place (t : Fin (cfgM m hO).N) (y : S1x1x8.Idx) : S16x1x8.Idx := (((cfgM m hO).win 3).blk t).view.emb y

theorem place_eq (t : Fin (cfgM m hO).N) (y : S1x1x8.Idx) : place m hO t y = ix3 (bat m hO t) 0 (y 2) := by
  have e : ∀ q : Fin 16, (BitVec.ofNat 32 q.val).toNat * 1 + 1 * 0 = q.val := by decide
  have h0 : (y 0).val = 0 := by have : (y 0).val < 1 := (y 0).isLt; omega
  have h1 : (y 1).val = 0 := by have : (y 1).val < 1 := (y 1).isLt; omega
  funext d
  refine Fin.ext ?_
  match d with
  | ⟨0, _⟩ =>
    show (BitVec.ofNat 32 (bat m hO t).val).toNat * 1 + 1 * (y 0).val = (bat m hO t).val
    rw [h0]; exact e (bat m hO t)
  | ⟨1, _⟩ => show 0 * 1 + 1 * (y 1).val = 0; omega
  | ⟨2, _⟩ => show 0 * 8 + 1 * (y 2).val = (y 2).val; omega

theorem final_place (c : Dev nD) (t : Fin (cfgM m hO).N) (y : S1x1x8.Idx) :
    outsAt0 m hO c t y = final m hO c (place m hO t y) := by
  have h0 : (y 0).val = 0 := by have : (y 0).val < 1 := (y 0).isLt; omega
  have h1 : (y 1).val = 0 := by have : (y 1).val < 1 := (y 1).isLt; omega
  rw [place_eq]
  show _ = outsAt0 m hO c (pt m hO (bat m hO t)) (ix3 0 0 (y 2))
  rw [pt_bat]
  refine congrArg (outsAt0 m hO c t) ?_
  funext d
  refine Fin.ext ?_
  match d with
  | ⟨0, _⟩ => exact h0
  | ⟨1, _⟩ => exact h1
  | ⟨2, _⟩ => rfl

theorem flushed_eq (c : Dev nD) (t : Fin (cfgM m hO).N) :
    (dats m hO 0 c).flushed 3 t = (((cfgM m hO).win 3).blk t).view.read (Elt Ideal) (final m hO c) := by
  show ((cfgM m hO).win 3).cut (grid0.coords t) ((dats m hO 0 c).after 3 t) = _
  rw [after0_3]
  funext y
  refine Eq.trans ?_ (View.read_apply _ _).symm
  exact final_place m hO c t y

theorem place_pt (b : Fin 16) (j : Fin 8) : place m hO (pt m hO b) (ix3 0 0 j) = ix3 b 0 j := by
  rw [place_eq, bat_pt]
  rfl

theorem cover (i : S16x1x8.Idx) :
    ∃ t : Fin (cfgM m hO).N, ((cfgM m hO).win 3).flush t = true ∧ i ∈ (((cfgM m hO).win 3).blk t).view.set := by
  refine ⟨pt m hO (i 0), flush0_3 _ _, ?_⟩
  have hi : place m hO (pt m hO (i 0)) (ix3 0 0 (i 2)) = i := by
    refine (place_pt m hO (i 0) (i 2)).trans ?_
    have h1 : (i 1).val = 0 := by have : (i 1).val < 1 := (i 1).isLt; omega
    funext d
    refine Fin.ext ?_
    match d with
    | ⟨0, _⟩ => rfl
    | ⟨1, _⟩ => exact h1.symm
    | ⟨2, _⟩ => rfl
  have hm : place m hO (pt m hO (i 0)) (ix3 0 0 (i 2)) ∈ (((cfgM m hO).win 3).blk (pt m hO (i 0))).view.set :=
    (((cfgM m hO).win 3).blk (pt m hO (i 0))).view.emb_mem_set _
  exact Eq.mp (congrArg (fun q => q ∈ (((cfgM m hO).win 3).blk (pt m hO (i 0))).view.set) hi) hm

theorem final_eq (c : Dev nD) : (dats m hO 0 c).arrAt 3 (cfgM m hO).N = final m hO c :=
  (dats m hO 0 c).arrAt_eq_of_cover 3 (final m hO c) (fun t _ => flushed_eq m hO c t) (cover m hO)

/-! The operations after the call. -/

theorem tail_coord (U : Valuation τ sig (Elt Ideal)) :
    StableHlo.after hostOps1 U (Proc.devRef .tc main_v8)
      = fun _ => coordOf (∑ b : Fin 16, (U (Proc.devRef .tc main_v2) : FVec Ideal S16x1x8 .f32) (ix3 b 0 0)) := by
  after_results_simp
  funext i
  pointwise [coordOf]

theorem tail_obj (U : Valuation τ sig (Elt Ideal)) :
    StableHlo.after hostOps1 U (Proc.devRef .tc main_v12)
      = fun _ => objOf (∑ b : Fin 16, (U (Proc.devRef .tc main_v2) : FVec Ideal S16x1x8 .f32) (ix3 b 0 1)) := by
  after_results_simp
  funext i
  pointwise [objOf]

theorem tail_noobj (U : Valuation τ sig (Elt Ideal)) :
    StableHlo.after hostOps1 U (Proc.devRef .tc main_v16)
      = fun _ => noobjOf (∑ b : Fin 16, (U (Proc.devRef .tc main_v2) : FVec Ideal S16x1x8 .f32) (ix3 b 0 2)) := by
  after_results_simp
  funext i
  pointwise [noobjOf]

theorem tail_cls (U : Valuation τ sig (Elt Ideal)) :
    StableHlo.after hostOps1 U (Proc.devRef .tc main_v23)
      = fun _ => clsOf (∑ b : Fin 16, (U (Proc.devRef .tc main_v2) : FVec Ideal S16x1x8 .f32) (ix3 b 0 3)) (∑ b : Fin 16, (U (Proc.devRef .tc main_v2) : FVec Ideal S16x1x8 .f32) (ix3 b 0 4)) := by
  after_results_simp
  funext i
  pointwise [clsOf]

theorem tail_total (U : Valuation τ sig (Elt Ideal)) :
    StableHlo.after hostOps1 U (Proc.devRef .tc main_v26)
      = fun _ => coordOf (∑ b : Fin 16, (U (Proc.devRef .tc main_v2) : FVec Ideal S16x1x8 .f32) (ix3 b 0 0)) + objOf (∑ b : Fin 16, (U (Proc.devRef .tc main_v2) : FVec Ideal S16x1x8 .f32) (ix3 b 0 1)) + noobjOf (∑ b : Fin 16, (U (Proc.devRef .tc main_v2) : FVec Ideal S16x1x8 .f32) (ix3 b 0 2))
          + clsOf (∑ b : Fin 16, (U (Proc.devRef .tc main_v2) : FVec Ideal S16x1x8 .f32) (ix3 b 0 3)) (∑ b : Fin 16, (U (Proc.devRef .tc main_v2) : FVec Ideal S16x1x8 .f32) (ix3 b 0 4)) := by
  after_results_simp
  funext i
  pointwise [coordOf, objOf, noobjOf, clsOf]

/-! The lanes of the output array, of the arguments. -/

/-- The predictions, the true boxes and their number, of a batch element. -/
abbrev argP (c : Dev nD) (b : Fin 16) : Fin 8400 → Fin 85 → EReal := fun p k => (m (c, main_arg0) : FVec Ideal S16x8400x85 .f32) (ix3 b p k)
abbrev argT (c : Dev nD) (b : Fin 16) : Fin 100 → Fin 85 → EReal := fun n k => (m (c, main_arg1) : FVec Ideal S16x100x85 .f32) (ix3 b n k)
abbrev argW (c : Dev nD) (b : Fin 16) : BitVec 32 := (m (c, main_arg2) : IVec S16 32) (ix1 b)

theorem word_arg (c : Dev nD) (b : Fin 16) : word c (grid0.coords (pt m hO b)) (tbl m 0) = argW m c b := by
  refine (word_eq c (grid0.coords (pt m hO b)) (tbl m 0)).trans ?_
  obtain rfl : c = 0 := Subsingleton.elim _ _
  refine (congrFun (V_main_arg2 m 0) _).trans ?_
  exact congrArg (fun q => (m (0, main_arg2) : IVec S16 32) (ix1 q)) (bat_pt m hO b)

theorem block_at (c : Dev nD) (b : Fin 16) (j : Fin 8) : final m hO c (ix3 b 0 j)
    = Ker.block (iblk m hO c 0 (pt m hO b)) (iblk m hO c 2 (pt m hO b)) (iblk m hO c 1 (pt m hO b)) (argW m c b) (ix3 0 0 j) := by
  show outsAt0 m hO c (pt m hO b) (ix3 0 0 j) = _
  rw [outsAt_eq, word_arg]

theorem in0 (c : Dev nD) (b : Fin 16) (k : Fin 5) (p : Fin 8400) :
    iblk m hO c 0 (pt m hO b) (ix3 0 k p) = argP m c b p (Ker.col k) := by
  refine (iblk0_apply m hO c (pt m hO b) k p).trans ?_
  rw [bat_pt]
  exact v1_apply m c b k p

theorem in1 (c : Dev nD) (b : Fin 16) (p : Fin 8400) (k : Fin 85) :
    iblk m hO c 1 (pt m hO b) (ix3 0 p k) = argP m c b p k := by
  refine (iblk1_apply m hO c (pt m hO b) p k).trans ?_
  rw [bat_pt]
  exact congrFun (V_main_arg0 m c) _

theorem in2 (c : Dev nD) (b : Fin 16) (n : Fin 100) (k : Fin 85) :
    iblk m hO c 2 (pt m hO b) (ix3 0 n k) = argT m c b n k := by
  refine (iblk2_apply m hO c (pt m hO b) n k).trans ?_
  rw [bat_pt]
  exact congrFun (V_main_arg1 m c) _

theorem final0 (c : Dev nD) (b : Fin 16) : final m hO c (ix3 b 0 0) = ker0 (argP m c b) (argT m c b) (argW m c b) :=
  (block_at m hO c b 0).trans (Ker.block0 _ (in0 m hO c b) (in2 m hO c b))

theorem final1 (c : Dev nD) (b : Fin 16) : final m hO c (ix3 b 0 1) = ker1 (argP m c b) (argT m c b) (argW m c b) :=
  (block_at m hO c b 1).trans (Ker.block1 _ (in0 m hO c b) (in2 m hO c b))

theorem final2 (c : Dev nD) (b : Fin 16) : final m hO c (ix3 b 0 2) = ker2 (argP m c b) (argT m c b) (argW m c b) :=
  (block_at m hO c b 2).trans (Ker.block2 _ (in0 m hO c b) (in2 m hO c b))

theorem final3 (c : Dev nD) (b : Fin 16) : final m hO c (ix3 b 0 3) = ker3 (argP m c b) (argT m c b) (argW m c b) :=
  (block_at m hO c b 3).trans (Ker.block3 _ (in0 m hO c b) (in1 m hO c b) (in2 m hO c b))

theorem final4 (c : Dev nD) (b : Fin 16) : final m hO c (ix3 b 0 4) = count (argW m c b) :=
  (block_at m hO c b 4).trans (Ker.block4 _)

/-- The contents the operations after the call start from. -/
abbrev entry (c : Dev nD) : Valuation τ sig (Elt Ideal) :=
  Pipeline.withArrays (Pipeline.pin pcfgs (fun _ => adm m hO) 0).spec c (V0 m c) fun w => (dats m hO 0 c).arrAt w (cfgM m hO).N

theorem entry_out (c : Dev nD) : entry m hO c (Proc.devRef .tc main_v2) = final m hO c :=
  (Pipeline.withArrays_arr spec0 winFacts0.arr_inj c (V0 m c) (fun w => (dats m hO 0 c).arrAt w (cfgM m hO).N) 3).trans (final_eq m hO c)

theorem sum0 (c : Dev nD) :
    (∑ b : Fin 16, (entry m hO c (Proc.devRef .tc main_v2) : FVec Ideal S16x1x8 .f32) (ix3 b 0 0) : EReal) = (∑ b, ker0 (argP m c b) (argT m c b) (argW m c b)) := by
  rw [entry_out]
  exact Finset.sum_congr rfl fun b _ => final0 m hO c b

theorem sum1 (c : Dev nD) :
    (∑ b : Fin 16, (entry m hO c (Proc.devRef .tc main_v2) : FVec Ideal S16x1x8 .f32) (ix3 b 0 1) : EReal) = (∑ b, ker1 (argP m c b) (argT m c b) (argW m c b)) := by
  rw [entry_out]
  exact Finset.sum_congr rfl fun b _ => final1 m hO c b

theorem sum2 (c : Dev nD) :
    (∑ b : Fin 16, (entry m hO c (Proc.devRef .tc main_v2) : FVec Ideal S16x1x8 .f32) (ix3 b 0 2) : EReal) = (∑ b, ker2 (argP m c b) (argT m c b) (argW m c b)) := by
  rw [entry_out]
  exact Finset.sum_congr rfl fun b _ => final2 m hO c b

theorem sum3 (c : Dev nD) :
    (∑ b : Fin 16, (entry m hO c (Proc.devRef .tc main_v2) : FVec Ideal S16x1x8 .f32) (ix3 b 0 3) : EReal) = (∑ b, ker3 (argP m c b) (argT m c b) (argW m c b)) := by
  rw [entry_out]
  exact Finset.sum_congr rfl fun b _ => final3 m hO c b

theorem sum4 (c : Dev nD) :
    (∑ b : Fin 16, (entry m hO c (Proc.devRef .tc main_v2) : FVec Ideal S16x1x8 .f32) (ix3 b 0 4) : EReal) = (∑ b, count (argW m c b)) := by
  rw [entry_out]
  exact Finset.sum_congr rfl fun b _ => final4 m hO c b

theorem out_total (c : Dev nD) :
    Pipeline.afterTail pcfgs (fun _ => adm m hO) (dats m hO) 0 (V0 m) [hostOps1] c main_v26
      = fun _ => coordOf (∑ b, ker0 (argP m c b) (argT m c b) (argW m c b)) + objOf (∑ b, ker1 (argP m c b) (argT m c b) (argW m c b)) + noobjOf (∑ b, ker2 (argP m c b) (argT m c b) (argW m c b)) + clsOf (∑ b, ker3 (argP m c b) (argT m c b) (argW m c b)) (∑ b, count (argW m c b)) := by
  refine (tail_total (entry m hO c)).trans ?_
  rw [sum0, sum1, sum2, sum3, sum4]

theorem out_coord (c : Dev nD) :
    Pipeline.afterTail pcfgs (fun _ => adm m hO) (dats m hO) 0 (V0 m) [hostOps1] c main_v8
      = fun _ => coordOf (∑ b, ker0 (argP m c b) (argT m c b) (argW m c b)) := by
  refine (tail_coord (entry m hO c)).trans ?_
  rw [sum0]

theorem out_obj (c : Dev nD) :
    Pipeline.afterTail pcfgs (fun _ => adm m hO) (dats m hO) 0 (V0 m) [hostOps1] c main_v12
      = fun _ => objOf (∑ b, ker1 (argP m c b) (argT m c b) (argW m c b)) := by
  refine (tail_obj (entry m hO c)).trans ?_
  rw [sum1]

theorem out_noobj (c : Dev nD) :
    Pipeline.afterTail pcfgs (fun _ => adm m hO) (dats m hO) 0 (V0 m) [hostOps1] c main_v16
      = fun _ => noobjOf (∑ b, ker2 (argP m c b) (argT m c b) (argW m c b)) := by
  refine (tail_noobj (entry m hO c)).trans ?_
  rw [sum2]

theorem out_cls (c : Dev nD) :
    Pipeline.afterTail pcfgs (fun _ => adm m hO) (dats m hO) 0 (V0 m) [hostOps1] c main_v23
      = fun _ => clsOf (∑ b, ker3 (argP m c b) (argT m c b) (argW m c b)) (∑ b, count (argW m c b)) := by
  refine (tail_cls (entry m hO c)).trans ?_
  rw [sum3, sum4]

include hO in
/-- The kernel's results, of the arguments: from any memory the run ends with them, and the arguments as they were. -/
theorem run : θ_run defs (onTc (τ := τ) (main (F := Ideal))) ⟨m, fun _ => 0, ρ⟩ fun r => ∀ c : Dev nD,
      r.2.mem ((c.tc : Thread nD τ).loc main_v26) = (fun _ => coordOf (∑ b, ker0 (argP m c b) (argT m c b) (argW m c b)) + objOf (∑ b, ker1 (argP m c b) (argT m c b) (argW m c b)) + noobjOf (∑ b, ker2 (argP m c b) (argT m c b) (argW m c b)) + clsOf (∑ b, ker3 (argP m c b) (argT m c b) (argW m c b)) (∑ b, count (argW m c b)))
      ∧ r.2.mem ((c.tc : Thread nD τ).loc main_v8) = (fun _ => coordOf (∑ b, ker0 (argP m c b) (argT m c b) (argW m c b)))
      ∧ r.2.mem ((c.tc : Thread nD τ).loc main_v12) = (fun _ => objOf (∑ b, ker1 (argP m c b) (argT m c b) (argW m c b)))
      ∧ r.2.mem ((c.tc : Thread nD τ).loc main_v16) = (fun _ => noobjOf (∑ b, ker2 (argP m c b) (argT m c b) (argW m c b)))
      ∧ r.2.mem ((c.tc : Thread nD τ).loc main_v23) = (fun _ => clsOf (∑ b, ker3 (argP m c b) (argT m c b) (argW m c b)) (∑ b, count (argW m c b)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v26 (by decide : main_v26 ∈ Pipeline.restRefs sig spec0)).trans (out_total m hO c),
      ((h c).2 main_v8 (by decide : main_v8 ∈ Pipeline.restRefs sig spec0)).trans (out_coord m hO c),
      ((h c).2 main_v12 (by decide : main_v12 ∈ Pipeline.restRefs sig spec0)).trans (out_obj m hO c),
      ((h c).2 main_v16 (by decide : main_v16 ∈ Pipeline.restRefs sig spec0)).trans (out_noobj m hO c),
      ((h c).2 main_v23 (by decide : main_v23 ∈ Pipeline.restRefs sig spec0)).trans (out_cls m hO c),
      ((h c).1 1).trans (((dats m hO 0 c).arrAt_in 1 rfl _).trans ((A_eq m hO c 1).trans (V_main_arg0 m c))),
      ((h c).1 2).trans (((dats m hO 0 c).arrAt_in 2 rfl _).trans ((A_eq m hO c 2).trans (V_main_arg1 m c))),
      ((h c).2 main_arg2 (by decide : main_arg2 ∈ Pipeline.restRefs sig spec0)).trans (W_main_arg2 m hO (dats m hO) c)⟩)
    (run_main m ρ hO)

end Cert.Yolo.Run

end
-- ==== Proof.ArgRed.lean ====
module

public import proofs.«01_k».proof.Proof.ArgMax
public import Idealize.ShloMosaic.PureOps.Ideal.Laws
public import Idealize.ShloMosaic.Lib.Pointwise

@[expose] public section

/-! A reduction of value-index pairs along the middle axis, by the step that keeps the greater value and, of equal
    values, the lower index: the index it ends at is that of the first greatest value. -/

noncomputable section

namespace Cert.Yolo

open Idealize.ShloMosaic

theorem argReduce_middle {f : EReal × BitVec 32 → EReal × BitVec 32 → EReal × BitVec 32} (hf : f = step) {n0 n1 n2 : ℕ} (hn : n1 ≤ 2 ^ 31) {t u : Shape} (h : (⟨3, ![n0, n1, n2]⟩ : Shape).ReducesTo [1] t) (hu : 0 < u.numel)
    (x : FVec Ideal ⟨3, ![n0, n1, n2]⟩ .f32) (y : (⟨3, ![n0, n1, n2]⟩ : Shape).Idx → BitVec 32) (x0 : u.Idx → Ideal .f32) (y0 : u.Idx → BitVec 32)
    (hx0 : ∀ i, x0 i = (⊥ : EReal)) (hy0 : ∀ i, y0 i = 0#32) (j : t.Idx) (a : Fin n0) (b : Fin n2)
    (ha : (j ⟨0, h.lt_r3_a1_0⟩).val = a.val) (hb : (j ⟨1, h.lt_r3_a1_1⟩).val = b.val)
    {g : Fin n1 → EReal} (hg : ∀ p, x (ix3 a p b) = g p) (hy : ∀ p, y (ix3 a p b) = BitVec.ofNat 32 p.val)
    {k : Fin n1} (hk : FirstMax g k) :
    (Host.argReduce (φ := .f32) f x y x0 y0 h hu j).2 = BitVec.ofNat 32 k.val := by
  subst hf
  rw [Ideal.argReduce_eq_reduce2, Host.reduce2_eq_foldl_fiber, hx0, hy0]
  refine foldl_step_firstMax hn hk _ fun q => ?_
  have hfib : ∀ i, h.drop i = j ↔ ∃ p : Fin n1, ix3 a p b = i := fun i => by
    rw [h.fiber_r3_a1]
    have e : ∀ p : Fin n1, (ix3 ⟨(j ⟨0, h.lt_r3_a1_0⟩).val, Shape.coordLt (j ⟨0, h.lt_r3_a1_0⟩) h.size_r3_a1_0⟩ p
        ⟨(j ⟨1, h.lt_r3_a1_1⟩).val, Shape.coordLt (j ⟨1, h.lt_r3_a1_1⟩) h.size_r3_a1_1⟩ : (⟨3, ![n0, n1, n2]⟩ : Shape).Idx) = ix3 a p b := fun p => by
      exact congrArg₂ (fun a b => ix3 a p b) (Fin.ext ha) (Fin.ext hb)
    simp only [e]
  unfold Host.argReduceFiber
  simp only [List.mem_map, List.mem_filter, List.mem_finRange, true_and, decide_eq_true_eq]
  constructor
  · rintro ⟨n, hn, rfl⟩
    obtain ⟨p, hp⟩ := (hfib _).mp hn
    exact ⟨p, by rw [← hp, hg, hy]⟩
  · rintro ⟨p, rfl⟩
    refine ⟨(⟨3, ![n0, n1, n2]⟩ : Shape).rowMajor (ix3 a p b), ?_, ?_⟩
    · rw [Equiv.symm_apply_apply]; exact (hfib _).mpr ⟨p, rfl⟩
    · rw [Equiv.symm_apply_apply, hg, hy]

/-- The indices such a reduction ends at. -/
def argIdx {s t u : Shape} {axes : List (Fin s.rank)} (f : EReal × BitVec 32 → EReal × BitVec 32 → EReal × BitVec 32) (x : FVec Ideal s .f32)
    (y : s.Idx → BitVec 32) (x0 : u.Idx → Ideal .f32) (y0 : u.Idx → BitVec 32) (h : s.ReducesTo axes t) (hu : 0 < u.numel) : t.Idx → BitVec 32 :=
  fun j => (Host.argReduce (φ := .f32) f x y x0 y0 h hu j).2

theorem argIdx_middle {f : EReal × BitVec 32 → EReal × BitVec 32 → EReal × BitVec 32} (hf : f = step) {n0 n1 n2 : ℕ} (hn : n1 ≤ 2 ^ 31) {t u : Shape} (h : (⟨3, ![n0, n1, n2]⟩ : Shape).ReducesTo [1] t) (hu : 0 < u.numel)
    (x : FVec Ideal ⟨3, ![n0, n1, n2]⟩ .f32) (y : (⟨3, ![n0, n1, n2]⟩ : Shape).Idx → BitVec 32) (x0 : u.Idx → Ideal .f32) (y0 : u.Idx → BitVec 32)
    (hx0 : ∀ i, x0 i = (⊥ : EReal)) (hy0 : ∀ i, y0 i = 0#32) (j : t.Idx) (a : Fin n0) (b : Fin n2)
    (ha : (j ⟨0, h.lt_r3_a1_0⟩).val = a.val) (hb : (j ⟨1, h.lt_r3_a1_1⟩).val = b.val)
    {g : Fin n1 → EReal} (hg : ∀ p, x (ix3 a p b) = g p) (hy : ∀ p, y (ix3 a p b) = BitVec.ofNat 32 p.val)
    {k : Fin n1} (hk : FirstMax g k) :
    argIdx f x y x0 y0 h hu j = BitVec.ofNat 32 k.val :=
  argReduce_middle hf hn h hu x y x0 y0 hx0 hy0 j a b ha hb hg hy hk

end Cert.Yolo

end
-- ==== Proof.RefVal.lean ====
module

public import proofs.«01_k».proof.Proof.Total
public import proofs.«01_k».proof.Proof.ArgRed
public import proofs.«01_k».proof.Proof.RefRun
public import Idealize.ShloMosaic.Lib.Pointwise

@[expose] public section

/-! The reference's buffers, of the arguments. -/

set_option maxRecDepth 16384

noncomputable section

namespace Cert.Yolo.Ref

open Idealize.ShloMosaic Cert.ReferenceIdeal Cert.ReferenceIdeal.Line

variable (V : Valuation τ sig (Elt Ideal))

/-- The predictions, the true boxes and their number, of a batch element. -/
abbrev rP (b : Fin 16) : Fin 8400 → Fin 85 → EReal := fun p k => (V (Proc.devRef .tc main_arg0) : FVec Ideal S16x8400x85 .f32) (ix3 b p k)
abbrev rT (b : Fin 16) : Fin 100 → Fin 85 → EReal := fun n k => (V (Proc.devRef .tc main_arg1) : FVec Ideal S16x100x85 .f32) (ix3 b n k)
abbrev rW (b : Fin 16) : BitVec 32 := (V (Proc.devRef .tc main_arg2) : IVec S16 32) (ix1 b)

theorem zero_int : FloatOps.sitofp (F := Ideal) .f32 (0#32) = (0 : EReal) := by
  show ((((0#32 : BitVec 32).toInt : ℤ) : ℝ) : EReal) = 0
  simp

theorem v51 (b : Fin 16) (p : Fin 8400) (n : Fin 100) :
    (res_main_v51 V : FVec Ideal S16x8400x100 .f32) (ix3 b p n) = inter (rP V b p 0) (rP V b p 1) (rP V b p 2) (rP V b p 3) (rT V b n 0) (rT V b n 1) (rT V b n 2) (rT V b n 3) := by
  pointwise [res_main_v51, res_main_v46, res_main_v7, res_main_v8]
  rw [zero_int, max_comm 0, max_comm 0]
  rfl

theorem v79 (b : Fin 16) (p : Fin 8400) (n : Fin 100) :
    (res_main_v79 V : FVec Ideal S16x8400x100 .f32) (ix3 b p n) = hull (rP V b p 0) (rP V b p 1) (rP V b p 2) (rP V b p 3) (rT V b n 0) (rT V b n 1) (rT V b n 2) (rT V b n 3) := by
  pointwise [res_main_v79, res_main_v74, res_main_v7, res_main_v8]
  rw [zero_int, max_comm 0, max_comm 0]
  rfl

theorem v57 (b : Fin 16) (p : Fin 8400) (n : Fin 100) :
    (res_main_v57 V : FVec Ideal S16x8400x100 .f32) (ix3 b p n) = union (rP V b p 0) (rP V b p 1) (rP V b p 2) (rP V b p 3) (rT V b n 0) (rT V b n 1) (rT V b n 2) (rT V b n 3) := by
  pointwise [res_main_v57, res_main_v7, res_main_v8]
  rw [v51]
  rfl

theorem v82 (b : Fin 16) (p : Fin 8400) (n : Fin 100) :
    (res_main_v82 V : FVec Ideal S16x8400x100 .f32) (ix3 b p n) = pairG (rP V b) (rT V b) n p := by
  pointwise [res_main_v82]
  rw [v51, v57, v79]
  rfl

/-- The mask of the true boxes, as a bit and as a number. -/
theorem v5 (b : Fin 16) (n : Fin 100) : (res_main_v5 V : IVec S16x100 1) (ix2 b n) = BitVec.ofBool (decide (on (rW V b) n)) := by
  pointwise [res_main_v5]
  unfold on
  exact congrArg BitVec.ofBool (Bool.decide_eq_true (b := (BitVec.ofNat 32 n.val).slt (rW V b))).symm

theorem num_ofBool (q : Prop) [Decidable q] : (FloatOps.uitofp .f32 (BitVec.ofBool (decide q)) : Ideal .f32) = (if q then 1 else 0 : EReal) := by
  show (((BitVec.ofBool (decide q)).toNat : ℝ) : EReal) = _
  by_cases h : q <;> simp [h]

theorem v6 (b : Fin 16) (n : Fin 100) : (res_main_v6 V : FVec Ideal S16x100 .f32) (ix2 b n) = mask (rW V b) n := by
  pointwise [res_main_v6]
  rw [v5, num_ofBool]
  rfl

/-! ### The predicted box of the best generalised overlap -/

theorem reducer_eq : (reducer_argmax_f32_i32 (F := Ideal)) = step := by
  funext a b
  obtain ⟨x, i⟩ := a
  obtain ⟨y, j⟩ := b
  by_cases h1 : y < x <;> by_cases h2 : x = y <;> by_cases h3 : i.toInt < j.toInt <;>
    simp [reducer_argmax_f32_i32, step, FloatOps.cmpf, Ideal.cmp, IntOp.ori, IntOp.andi, IntOp.cmpi, Scalar.select, BitVec.slt_eq_decide, h1, h2, h3]

theorem bot_bits : Ideal.ofBits .f32 0xFF800000#32 = (⊥ : EReal) := by
  simp [Ideal.ofBits, Ideal.ieee]

end Cert.Yolo.Ref

end
-- ==== Proof.RefArg.lean ====
module

public import proofs.«01_k».proof.Proof.RefVal
public import proofs.«01_k».proof.Proof.ArgRed
public import proofs.«01_k».proof.Proof.RefRun
public import Idealize.ShloMosaic.Lib.Pointwise

@[expose] public section

/-! The reference's buffers, of the arguments. -/

set_option maxRecDepth 16384

noncomputable section

namespace Cert.Yolo.Ref

open Idealize.ShloMosaic Cert.ReferenceIdeal Cert.ReferenceIdeal.Line

variable (V : Valuation τ sig (Elt Ideal))

theorem v84_eq : res_main_v84 V = argIdx (reducer_argmax_f32_i32 (F := Ideal)) (res_main_v82 V) (iotaInDim S16x8400x100 32 1) (constant S_ .f32 0xFF800000#32) (constantI S_ 32 0#32) Gen.reducesTo_S16x8400x100_S16x100_d1 Gen.h_S_ := by
  delta res_main_v84
  exact rfl

theorem v84 (b : Fin 16) (n : Fin 100) :
    (res_main_v84 V : IVec S16x100 32) (ix2 b n) = BitVec.ofNat 32 (refK (rP V b) (rT V b) n).val := by
  have hy : ∀ p : Fin 8400, iotaInDim S16x8400x100 32 1 (ix3 b p n) = BitVec.ofNat 32 p.val := fun p => rfl
  have hn : 8400 ≤ 2 ^ 31 := by norm_num
  rw [v84_eq]
  exact argIdx_middle (n0 := 16) (n1 := 8400) (n2 := 100) reducer_eq hn _ _ (res_main_v82 V) (iotaInDim S16x8400x100 32 1) _ _
    (fun _ => bot_bits) (fun _ => rfl) (ix2 b n) b n rfl rfl (g := pairG (rP V b) (rT V b) n) (fun p => v82 V b p n) hy
    (k := refK (rP V b) (rT V b) n) (amax_spec _)

theorem best_of (x : FVec Ideal S16x8400x100 .f32) (b : Fin 16) (n : Fin 100) {g : Fin 8400 → EReal} (hg : ∀ p, x (ix3 b p n) = g p)
    {k : Fin 8400} (hk : FirstMax g k) :
    (Host.reduce FloatOps.maximumf x (constant S_ .f32 0xFF800000#32) Gen.reducesTo_S16x8400x100_S16x100_d1 Gen.h_S_ : FVec Ideal S16x100 .f32) (ix2 b n)
      = g k := by
  pointwise [constant]
  rw [bot_bits, ← hk.fold_max]
  exact congrArg (Finset.fold max ⊥ · Finset.univ) (funext hg)

/-- The greatest generalised overlap of a true box. -/
def top : FVec Ideal S16x100 .f32 :=
  Host.reduce FloatOps.maximumf (res_main_v82 V) (constant S_ .f32 0xFF800000#32) Gen.reducesTo_S16x8400x100_S16x100_d1 Gen.h_S_

theorem top_apply (b : Fin 16) (n : Fin 100) : top V (ix2 b n) = pairG (rP V b) (rT V b) n (refK (rP V b) (rT V b) n) :=
  best_of (res_main_v82 V) b n (fun p => v82 V b p n) (amax_spec _)

theorem one_bits : Ideal.ofBits .f32 0x3F800000#32 = (1 : EReal) := by
  simp [Ideal.ofBits, Ideal.ieee, -EReal.coe_mul]
  have : ((8388608 : ℝ) * (2 ^ 23)⁻¹) = 1 := by norm_num
  rw [this]

theorem coord_of (x y : FVec Ideal S16x100 .f32) :
    (mulf (Host.divf (Host.reduceAdd (Host.reduceAdd (mulf (subf (broadcastInDim S16x100 ![] Gen.bcast_S_S16x100 (constant S_ .f32 0x3F800000#32)) x) y) (constant S_ .f32 0x00000000#32) Gen.reducesTo_S16x100_S16_d1 Gen.h_S_) (constant S_ .f32 0x00000000#32) Gen.reducesTo_S16_S_d0 Gen.h_S_) (constant S_ .f32 0x41800000#32)) (constant S_ .f32 0x40A00000#32) : FVec Ideal S_ .f32)
      = fun _ => coordOf (∑ b : Fin 16, ∑ n : Fin 100, (1 - x (ix2 b n)) * y (ix2 b n)) := by
  funext i
  pointwise [coordOf]

/-- The box loss. -/
theorem v91 : (res_main_v91 V : FVec Ideal S_ .f32) = fun _ => coordOf (∑ b, ref0 (rP V b) (rT V b) (rW V b)) := by
  delta res_main_v91
  refine (coord_of (top V) (res_main_v6 V)).trans ?_
  refine funext fun _ => congrArg coordOf (Finset.sum_congr rfl fun b _ => Finset.sum_congr rfl fun n _ => ?_)
  rw [top_apply, v6]

end Cert.Yolo.Ref

end
-- ==== Proof.RefHit.lean ====
module

public import proofs.«01_k».proof.Proof.RefArg
public import Idealize.ShloMosaic.Lib.Routing.OpsSet
public import Idealize.ShloMosaic.Lib.Routing.OpsPair

@[expose] public section

/-! The reference's marks: which predicted boxes some true box chose. -/

set_option maxRecDepth 16384

noncomputable section

namespace Cert.Yolo.Ref

open Idealize.ShloMosaic Cert.ReferenceIdeal Cert.ReferenceIdeal.Line

variable (V : Valuation τ sig (Elt Ideal))

theorem v111 (b : Fin 16) (p : Fin 8400) : (res_main_v111 V : FVec Ideal S16x8400 .f32) (ix2 b p) = rP V b p 4 := by
  pointwise [res_main_v111]

theorem window_zero (i : Fin 1600) : scatter_S134400_S1600x1_S1600_n_0_0_1.window (ix1 i) 0 = 0 := by
  unfold ScatterDims.window
  exact dif_neg (by decide)

theorem start_eq (i : Fin 1600) (idx : IVec S1600x1 32) :
    scatter_S134400_S1600x1_S1600_n_0_0_1.start (ix1 i) idx 0 = (idx (ix2 i (0 : Fin 1))).toInt := by
  unfold ScatterDims.start
  rw [dif_pos (by decide)]
  refine congrArg (fun j => (idx j).toInt) (funext fun a => Fin.ext ?_)
  match a with
  | ⟨0, _⟩ => rfl
  | ⟨1, _⟩ => rfl

theorem marks_land (i : Fin 1600) (x : Fin 134400) (idx : IVec S1600x1 32) :
    scatter_S134400_S1600x1_S1600_n_0_0_1.resultIdx? (ix1 i) idx = some (ix1 x) ↔ (idx (ix2 i (0 : Fin 1))).toInt = (x.val : Int) := by
  refine (Routing.resultIdx?_ix1 _ (ix1 i) idx x).trans ?_
  have h := window_zero i
  have h' := start_eq i idx
  constructor
  · intro e
    rw [← h', ← e, h]
    exact (add_zero _).symm
  · intro e
    rw [← e, ← h', h]
    exact add_zero _

/-- The place of a true box, and of a predicted box, in the flattened order. -/
def flatT (b : Fin 16) (n : Fin 100) : Fin 1600 := ⟨b.val * 100 + n.val, by omega⟩
def flatP (b : Fin 16) (p : Fin 8400) : Fin 134400 := ⟨b.val * 8400 + p.val, by omega⟩

theorem flatT_surj (i : Fin 1600) : ∃ b n, i = flatT b n :=
  ⟨⟨i.val / 100, by omega⟩, ⟨i.val % 100, by omega⟩, Fin.ext (by show i.val = i.val / 100 * 100 + i.val % 100; omega)⟩

theorem v100 (b : Fin 16) (n : Fin 100) :
    (res_main_v100 V : IVec S1600 32) (ix1 (flatT b n))
      = if on (rW V b) n then BitVec.ofNat 32 (b.val * 8400 + (refK (rP V b) (rT V b) n).val) else 134400#32 := by
  delta res_main_v100
  refine (Idealize.ShloMosaic.shapeCast_apply _ Gen.shapeCasts_S16x100_S1600 (ix1 (flatT b n)) (ix2 b n) ?_).trans ?_
  · refine (Shape.rowMajor_val_two _).trans ?_
    exact (Shape.rowMajor_val_one (d := ![1600]) (ix1 (flatT b n))).symm
  · pointwise []
    rw [v5, v84]
    by_cases h : on (rW V b) n
    · rw [if_pos h, decide_eq_true h]
      show BitVec.ofNat 32 _ + BitVec.ofNat 32 b.val * BitVec.ofNat 32 8400 = _
      rw [← BitVec.ofNat_mul, ← BitVec.ofNat_add, Nat.add_comm]
    · rw [if_neg h, decide_eq_false h]
      rfl

/-- The place each true box marks: past the end when the box is padding. -/
def place (b : Fin 16) (n : Fin 100) : Nat :=
  if on (rW V b) n then b.val * 8400 + (refK (rP V b) (rT V b) n).val else 134400

theorem place_le (b : Fin 16) (n : Fin 100) : place V b n ≤ 134400 := by
  have hb := b.isLt
  have hk := (refK (rP V b) (rT V b) n).isLt
  unfold place
  split <;> omega

theorem v100_place (b : Fin 16) (n : Fin 100) :
    (res_main_v100 V : IVec S1600 32) (ix1 (flatT b n)) = BitVec.ofNat 32 (place V b n) := by
  rw [v100]
  unfold place
  split <;> rfl

/-- The words the marks are written at. -/
def marks (x : IVec S1600 32) : IVec S1600x1 32 :=
  broadcastInDim S1600x1 ![0] Gen.bcast_S1600_S1600x1_0 (select (cmpi .slt x (broadcastInDim S1600 ![] Gen.bcast_S_S1600 (constantI S_ 32 0#32))) (addi x (broadcastInDim S1600 ![] Gen.bcast_S_S1600 (constantI S_ 32 134400#32))) x)

theorem marks_of (x : IVec S1600 32) (i : Fin 1600) (j : Nat) (hj : j ≤ 134400) (hx : x (ix1 i) = BitVec.ofNat 32 j) :
    (marks x (ix2 i (0 : Fin 1))).toInt = (j : Int) := by
  have e : (BitVec.ofNat 32 j).toInt = (j : Int) := StableHlo.Predicate.toInt_ofNat_small _ (by omega)
  have hn : (BitVec.ofNat 32 j).slt 0#32 = false := by
    rw [BitVec.slt_eq_decide, e]
    simp
  pointwise [marks]
  rw [hx]
  show (Scalar.select (BitVec.ofBool ((BitVec.ofNat 32 j).slt 0#32)) _ _ : BitVec 32).toInt = _
  rw [hn]
  exact e

/-- The marks, before they are laid out. -/
def flags : FVec Ideal S134400 .f32 :=
  Host.scatter scatter_S134400_S1600x1_S1600_n_0_0_1 (fun _ b => b) (broadcastInDim S134400 ![] Gen.bcast_S_S134400 (constant S_ .f32 0x00000000#32)) (marks (res_main_v100 V)) (broadcastInDim S1600 ![] Gen.bcast_S_S1600 (constant S_ .f32 0x3F800000#32))

theorem lands_iff (i : Fin 1600) (b : Fin 16) (p : Fin 8400) :
    scatter_S134400_S1600x1_S1600_n_0_0_1.resultIdx? (ix1 i) (marks (res_main_v100 V)) = some (ix1 (flatP b p))
      ↔ ∃ n, i = flatT b n ∧ on (rW V b) n ∧ p = refK (rP V b) (rT V b) n := by
  obtain ⟨b', n', rfl⟩ := flatT_surj i
  rw [marks_land, marks_of _ _ _ (place_le V b' n') (v100_place V b' n')]
  have hb := b.isLt
  have hb' := b'.isLt
  have hp := p.isLt
  have hk := (refK (rP V b') (rT V b') n').isLt
  have hn' := n'.isLt
  unfold place flatP
  constructor
  · intro h
    by_cases ho : on (rW V b') n'
    · rw [if_pos ho] at h
      have h' : b'.val * 8400 + (refK (rP V b') (rT V b') n').val = b.val * 8400 + p.val := by exact_mod_cast h
      have e : b' = b := Fin.ext (by omega)
      subst e
      exact ⟨n', rfl, ho, Fin.ext (by omega)⟩
    · rw [if_neg ho] at h
      have h' : 134400 = b.val * 8400 + p.val := by exact_mod_cast h
      omega
  · rintro ⟨n, hi, ho, hpk⟩
    have hn := n.isLt
    have h' : b'.val * 100 + n'.val = b.val * 100 + n.val := congrArg Fin.val hi
    have e : b' = b := Fin.ext (by omega)
    subst e
    have e' : n' = n := Fin.ext (by omega)
    subst e'
    rw [if_pos ho, hpk]

theorem flags_apply (b : Fin 16) (p : Fin 8400) :
    flags V (ix1 (flatP b p)) = hit (rW V b) (refK (rP V b) (rT V b)) p := by
  unfold hit
  by_cases h : ∃ m, on (rW V b) m ∧ p = refK (rP V b) (rT V b) m
  · rw [if_pos h]
    obtain ⟨m, ho, hp⟩ := h
    exact Routing.scatter_set_hit _ _ _ _ _ (1 : EReal) (fun k _ => one_bits) (ix1 (flatT b m)) ((lands_iff V _ b p).2 ⟨m, rfl, ho, hp⟩)
  · rw [if_neg h]
    refine (Routing.scatter_set_miss _ _ _ _ _ fun k hk => ?_).trans ?_
    · rw [eq_ix1 k] at hk
      obtain ⟨m, -, ho, hp⟩ := (lands_iff V _ b p).1 hk
      exact h ⟨m, ho, hp⟩
    · pointwise [constant]

theorem v109 (b : Fin 16) (p : Fin 8400) :
    (res_main_v109 V : FVec Ideal S16x8400 .f32) (ix2 b p) = hit (rW V b) (refK (rP V b) (rT V b)) p := by
  delta res_main_v109
  refine (Idealize.ShloMosaic.shapeCast_apply (flags V) Gen.shapeCasts_S134400_S16x8400 (ix2 b p) (ix1 (flatP b p)) ?_).trans (flags_apply V b p)
  refine Eq.trans ?_ (Shape.rowMajor_val_two _).symm
  exact Shape.rowMajor_val_one (d := ![134400]) (ix1 (flatP b p))

end Cert.Yolo.Ref

end
-- ==== Proof.RefObj.lean ====
module

public import proofs.«01_k».proof.Proof.RefHit

@[expose] public section

/-! The reference's objectness terms. -/

set_option maxRecDepth 16384

noncomputable section

namespace Cert.Yolo.Ref

open Idealize.ShloMosaic Cert.ReferenceIdeal Cert.ReferenceIdeal.Line

variable (V : Valuation τ sig (Elt Ideal))

theorem zero_bits : Ideal.ofBits .f32 0x00000000#32 = (0 : EReal) := by
  simp [Ideal.ofBits, Ideal.ieee]

/-- The cross entropy as the reference spells it, at one number. -/
theorem bce_spelt (x t : EReal) : max x 0 - x * t + Ideal.log1p (Ideal.exp (-(FloatOps.absf (F := Ideal) (φ := .f32) x))) = bce x t := by
  unfold bce soft
  rw [zero_sub]

theorem obj_of (x y : FVec Ideal S16x8400 .f32) :
    (mulf (Host.divf (Host.reduceAdd (Host.reduceAdd (mulf (addf (subf (maximumf x (broadcastInDim S16x8400 ![] Gen.bcast_S_S16x8400 (constant S_ .f32 0x00000000#32))) (mulf x (broadcastInDim S16x8400 ![] Gen.bcast_S_S16x8400 (constant S_ .f32 0x3F800000#32)))) (Host.log1p (Host.exp (Host.negf (Host.absf x))))) y) (constant S_ .f32 0x00000000#32) Gen.reducesTo_S16x8400_S16_d1 Gen.h_S_) (constant S_ .f32 0x00000000#32) Gen.reducesTo_S16_S_d0 Gen.h_S_) (constant S_ .f32 0x41800000#32)) (constant S_ .f32 0x40000000#32) : FVec Ideal S_ .f32)
      = fun _ => objOf (∑ b : Fin 16, ∑ p : Fin 8400, bce (x (ix2 b p)) 1 * y (ix2 b p)) := by
  funext i
  pointwise [objOf]
  refine congrArg objOf (Finset.sum_congr rfl fun b _ => Finset.sum_congr rfl fun p _ => congrArg (· * y (ix2 b p)) ?_)
  exact (congrArg (fun u => max (x (ix2 b p)) 0 - u + Ideal.log1p (Ideal.exp (-(FloatOps.absf (F := Ideal) (φ := .f32) (x (ix2 b p)))))) (mul_one _).symm).trans (bce_spelt _ _)

theorem noobj_of (x y : FVec Ideal S16x8400 .f32) :
    (mulf (Host.divf (Host.reduceAdd (Host.reduceAdd (mulf (addf (subf (maximumf x (broadcastInDim S16x8400 ![] Gen.bcast_S_S16x8400 (constant S_ .f32 0x00000000#32))) (mulf x (broadcastInDim S16x8400 ![] Gen.bcast_S_S16x8400 (constant S_ .f32 0x00000000#32)))) (Host.log1p (Host.exp (Host.negf (Host.absf x))))) (subf (broadcastInDim S16x8400 ![] Gen.bcast_S_S16x8400 (constant S_ .f32 0x3F800000#32)) y)) (constant S_ .f32 0x00000000#32) Gen.reducesTo_S16x8400_S16_d1 Gen.h_S_) (constant S_ .f32 0x00000000#32) Gen.reducesTo_S16_S_d0 Gen.h_S_) (constant S_ .f32 0x41800000#32)) (constant S_ .f32 0x3F000000#32) : FVec Ideal S_ .f32)
      = fun _ => noobjOf (∑ b : Fin 16, ∑ p : Fin 8400, bce (x (ix2 b p)) 0 * (1 - y (ix2 b p))) := by
  funext i
  pointwise [noobjOf]
  exact congrArg noobjOf (Finset.sum_congr rfl fun b _ => Finset.sum_congr rfl fun p _ => congrArg (· * (1 - y (ix2 b p))) (bce_spelt _ _))

/-- The objectness loss where a box was chosen. -/
theorem v126 : (res_main_v126 V : FVec Ideal S_ .f32) = fun _ => objOf (∑ b, ref1 (rP V b) (rT V b) (rW V b)) := by
  delta res_main_v126
  refine (obj_of (res_main_v111 V) (res_main_v109 V)).trans ?_
  refine funext fun _ => congrArg objOf (Finset.sum_congr rfl fun b _ => Finset.sum_congr rfl fun p _ => ?_)
  rw [v111, v109]

/-- The objectness loss where none was. -/
theorem v143 : (res_main_v143 V : FVec Ideal S_ .f32) = fun _ => noobjOf (∑ b, ref2 (rP V b) (rT V b) (rW V b)) := by
  delta res_main_v143
  refine (noobj_of (res_main_v111 V) (res_main_v109 V)).trans ?_
  refine funext fun _ => congrArg noobjOf (Finset.sum_congr rfl fun b _ => Finset.sum_congr rfl fun p _ => ?_)
  rw [v111, v109]

end Cert.Yolo.Ref

end
-- ==== Proof.RefCls.lean ====
module

public import proofs.«01_k».proof.Proof.RefObj
public import Idealize.ShloMosaic.Lib.ReduceAll

@[expose] public section

/-! The reference's class term. -/

set_option maxRecDepth 16384

noncomputable section

namespace Cert.Yolo.Ref

open Idealize.ShloMosaic Cert.ReferenceIdeal Cert.ReferenceIdeal.Line

variable (V : Valuation τ sig (Elt Ideal))

/-- The rows taken: one of the 8400 for each true box, by its word, held inside. -/
theorem rows_taken (x : FVec Ideal S16x8400x80 .f32) (idx : IVec S16x100x1 32) (b : Fin 16) (n : Fin 100) (c : Fin 80) (k : Fin 8400)
    (hk : (idx (ix3 b n (0 : Fin 1))).toInt = (k.val : Int)) :
    Host.gather gather_S16x8400x80_S16x100x1_S16x100x80_2_1_0_0_1_2_1180 x idx (ix3 b n c) = x (ix3 b k c) := by
  have hs : gather_S16x8400x80_S16x100x1_S16x100x80_2_1_0_0_1_2_1180.start (ix3 b n c) idx 1 = k.val := by
    unfold GatherDims.start
    rw [dif_pos (by decide)]
    have hi : gather_S16x8400x80_S16x100x1_S16x100x80_2_1_0_0_1_2_1180.siIdx (ix3 b n c) ⟨0, by decide⟩ = ix3 b n (0 : Fin 1) := by
      funext a
      apply Fin.ext
      match a with
      | ⟨0, _⟩ => rfl
      | ⟨1, _⟩ => rfl
      | ⟨2, _⟩ => rfl
    refine (congrArg (fun j => min (idx j).toInt.toNat 8399) hi).trans ?_
    show min (idx (ix3 b n (0 : Fin 1))).toInt.toNat 8399 = k.val
    have := k.isLt
    rw [hk]
    omega
  refine congrArg x (funext fun a => Fin.ext ?_)
  match a with
  | ⟨0, _⟩ => exact (Nat.zero_add _).trans (Nat.add_zero _)
  | ⟨1, _⟩ => exact hs
  | ⟨2, _⟩ => exact Nat.zero_add _

theorem word_nonneg (k : Fin 8400) : (BitVec.ofNat 32 k.val).slt 0#32 = false := by
  have e : (BitVec.ofNat 32 k.val).toInt = (k.val : Int) := StableHlo.Predicate.toInt_ofNat_small _ (by omega)
  rw [BitVec.slt_eq_decide, e]
  simp

/-- The words rows are taken by. -/
def rowsOf (x : IVec S16x100 32) : IVec S16x100x1 32 :=
  select (cmpi .slt (broadcastInDim S16x100x1 ![0, 1] Gen.bcast_S16x100_S16x100x1_0_1 x) (broadcastInDim S16x100x1 ![] Gen.bcast_S_S16x100x1 (constantI S_ 32 0#32))) (addi (broadcastInDim S16x100x1 ![0, 1] Gen.bcast_S16x100_S16x100x1_0_1 x) (broadcastInDim S16x100x1 ![] Gen.bcast_S_S16x100x1 (constantI S_ 32 8400#32))) (broadcastInDim S16x100x1 ![0, 1] Gen.bcast_S16x100_S16x100x1_0_1 x)

theorem rowsOf_apply (x : IVec S16x100 32) (b : Fin 16) (n : Fin 100) (z : Fin 1) (k : Fin 8400) (hx : x (ix2 b n) = BitVec.ofNat 32 k.val) :
    rowsOf x (ix3 b n z) = BitVec.ofNat 32 k.val := by
  pointwise [rowsOf]
  rw [hx]
  show (Scalar.select (BitVec.ofBool ((BitVec.ofNat 32 k.val).slt 0#32)) _ _ : BitVec 32) = _
  rw [word_nonneg]
  rfl

theorem rows_eq : res_main_call4_v4 V = rowsOf (res_main_v84 V) := by
  delta res_main_call4_v4 res_main_v145
  exact rfl

/-- The word of the row a true box takes. -/
theorem row_word (b : Fin 16) (n : Fin 100) (z : Fin 1) :
    (res_main_call4_v4 V : IVec S16x100x1 32) (ix3 b n z) = BitVec.ofNat 32 (refK (rP V b) (rT V b) n).val := by
  rw [rows_eq]
  exact rowsOf_apply (res_main_v84 V) b n z _ (v84 V b n)

theorem word_low (k : Fin 8400) : (0#32 : BitVec 32).sle (BitVec.ofNat 32 k.val) = true := by
  have e : (BitVec.ofNat 32 k.val).toInt = (k.val : Int) := StableHlo.Predicate.toInt_ofNat_small _ (by omega)
  rw [BitVec.sle_eq_decide, e]
  exact decide_eq_true (by show (0 : Int) ≤ _; omega)

theorem word_high (k : Fin 8400) : (BitVec.ofNat 32 k.val).sle (8399#32 : BitVec 32) = true := by
  have e : (BitVec.ofNat 32 k.val).toInt = (k.val : Int) := StableHlo.Predicate.toInt_ofNat_small _ (by omega)
  have e' : (8399#32 : BitVec 32).toInt = 8399 := by decide
  have := k.isLt
  rw [BitVec.sle_eq_decide, e, e']
  exact decide_eq_true (by omega)

/-- Whether a word names a row. -/
def inside (idx : IVec S16x100x1 32) : IVec S16x100x1 1 :=
  andi (cmpi .sge idx (broadcastInDim S16x100x1 ![] Gen.bcast_S_S16x100x1 (constantI S_ 32 0#32))) (cmpi .sle idx (broadcastInDim S16x100x1 ![0, 1, 2] Gen.bcast_S1x1x1_S16x100x1_0_1_2 (broadcastInDim S1x1x1 ![2] Gen.bcast_S1_S1x1x1_2 (constantI S1 32 8399#32))))

theorem inside_one (idx : IVec S16x100x1 32) (i : S16x100x1.Idx) (k : Fin 8400) (hk : idx i = BitVec.ofNat 32 k.val) : inside idx i = 1#1 := by
  show IntOp.andi (IntOp.cmpi .sge (idx i) 0#32) (IntOp.cmpi .sle (idx i) 8399#32) = 1#1
  rw [hk]
  simp only [IntOp.cmpi]
  rw [word_low, word_high]
  rfl

theorem picked (m : IVec S16x100 1) (g w : FVec Ideal S16x100x80 .f32) (b : Fin 16) (n : Fin 100) (c : Fin 80) (hm : m (ix2 b n) = 1#1) :
    select (broadcastInDim S16x100x80 ![0, 1] Gen.bcast_S16x100_S16x100x80_0_1 m) g w (ix3 b n c) = g (ix3 b n c) := by
  pointwise []
  rw [hm]
  rfl

theorem taken_of (x : FVec Ideal S16x8400x85 .f32) (idx : IVec S16x100x1 32) (w : FVec Ideal S16x100x80 .f32) (b : Fin 16) (n : Fin 100) (c : Fin 80) (k : Fin 8400)
    (hk : idx (ix3 b n (0 : Fin 1)) = BitVec.ofNat 32 k.val) (hall : ∀ i, ∃ k : Fin 8400, idx i = BitVec.ofNat 32 k.val) :
    (select (broadcastInDim S16x100x80 ![0, 1] Gen.bcast_S16x100_S16x100x80_0_1 (Host.reduce IntOp.andi (inside idx) (constantI S_ 1 1#1) Gen.reducesTo_S16x100x1_S16x100_d2 Gen.h_S_)) (Host.gather gather_S16x8400x80_S16x100x1_S16x100x80_2_1_0_0_1_2_1180 (extractStridedSlice S16x8400x80 ![0, 0, 5] x Gen.slices_S16x8400x85_S16x8400x80_0_0_5) idx) w : FVec Ideal S16x100x80 .f32) (ix3 b n c)
      = x (ix3 b k ⟨5 + c.val, by omega⟩) := by
  refine (picked _ _ _ b n c (Host.reduce_andi_one _ _ _ _ _ rfl fun i => ?_)).trans ?_
  · obtain ⟨k', hk'⟩ := hall i
    exact inside_one idx i k' hk'
  · refine (rows_taken _ idx b n c k ?_).trans ?_
    · rw [hk]
      exact StableHlo.Predicate.toInt_ofNat_small _ (by omega)
    · pointwise []

theorem rows_inside (i : S16x100x1.Idx) : ∃ k : Fin 8400, (res_main_call4_v4 V : IVec S16x100x1 32) i = BitVec.ofNat 32 k.val := by
  obtain ⟨b, n, z, rfl⟩ : ∃ b n z, i = ix3 b n z := ⟨i 0, i 1, i 2, eq_ix3 i⟩
  exact ⟨_, row_word V b n z⟩

/-- The class scores of the box a true box chose. -/
theorem v146 (b : Fin 16) (n : Fin 100) (c : Fin 80) :
    (res_main_v146 V : FVec Ideal S16x100x80 .f32) (ix3 b n c) = rP V b (refK (rP V b) (rT V b) n) ⟨5 + c.val, by omega⟩ := by
  delta res_main_v146
  exact taken_of (V (Proc.devRef .tc main_arg0)) (res_main_call4_v4 V) _ b n c _ (row_word V b n 0) (rows_inside V)

theorem cls_row (x t : FVec Ideal S16x100x80 .f32) (b : Fin 16) (n : Fin 100) :
    (Host.reduceAdd (addf (subf (maximumf x (broadcastInDim S16x100x80 ![] Gen.bcast_S_S16x100x80 (constant S_ .f32 0x00000000#32))) (mulf x t)) (Host.log1p (Host.exp (Host.negf (Host.absf x))))) (constant S_ .f32 0x00000000#32) Gen.reducesTo_S16x100x80_S16x100_d2 Gen.h_S_ : FVec Ideal S16x100 .f32) (ix2 b n)
      = ∑ c : Fin 80, bce (x (ix3 b n c)) (t (ix3 b n c)) := by
  pointwise []
  exact Finset.sum_congr rfl fun c _ => bce_spelt _ _

theorem total_of (z : FVec Ideal S16x100 .f32) (i : S_.Idx) :
    (Host.reduceAdd z (constant S_ .f32 0x00000000#32) Gen.reducesTo_S16x100_S_d0_1 Gen.h_S_ : FVec Ideal S_ .f32) i
      = ∑ b : Fin 16, ∑ n : Fin 100, z (ix2 b n) := by
  refine (ValueIdx.hostReduceAdd_apply _ _ _ _ _).trans ?_
  unfold Ideal.hostReduceAdd
  rw [Finset.filter_true_of_mem fun j _ => Subsingleton.elim _ _, sum_idx2]
  refine (congrArg (· + _) zero_bits).trans (zero_add _)

theorem cls_total (r y : FVec Ideal S16x100 .f32) :
    (mulf (Host.divf (Host.reduceAdd (mulf r y) (constant S_ .f32 0x00000000#32) Gen.reducesTo_S16x100_S_d0_1 Gen.h_S_) (maximumf (Host.reduceAdd y (constant S_ .f32 0x00000000#32) Gen.reducesTo_S16x100_S_d0_1 Gen.h_S_) (constant S_ .f32 0x3F800000#32))) (constant S_ .f32 0x3F800000#32) : FVec Ideal S_ .f32)
      = fun _ => clsOf (∑ b : Fin 16, ∑ n : Fin 100, (r (ix2 b n) : EReal) * y (ix2 b n)) (∑ b : Fin 16, ∑ n : Fin 100, y (ix2 b n)) :=
  funext fun i => congrArg₂ clsOf (total_of (mulf r y) i) (total_of y i)

/-- The slice of the true boxes' classes. -/
theorem classes (t : FVec Ideal S16x100x85 .f32) (b : Fin 16) (n : Fin 100) (c : Fin 80) :
    (extractStridedSlice S16x100x80 ![0, 0, 5] t Gen.slices_S16x100x85_S16x100x80_0_0_5 : FVec Ideal S16x100x80 .f32) (ix3 b n c) = t (ix3 b n ⟨5 + c.val, by omega⟩) := by
  pointwise []

/-- The class loss. -/
theorem v163 : (res_main_v163 V : FVec Ideal S_ .f32) = fun _ => clsOf (∑ b, ref3 (rP V b) (rT V b) (rW V b)) (∑ b, count (rW V b)) := by
  delta res_main_v163
  refine (cls_total _ (res_main_v6 V)).trans ?_
  refine funext fun _ => congrArg₂ clsOf (Finset.sum_congr rfl fun b _ => ?_) (Finset.sum_congr rfl fun b _ => Finset.sum_congr rfl fun n _ => v6 V b n)
  unfold ref3 cls
  refine Finset.sum_congr rfl fun n _ => ?_
  refine congrArg₂ (· * ·) ((cls_row (res_main_v146 V) _ b n).trans (Finset.sum_congr rfl fun c _ => ?_)) (v6 V b n)
  rw [v146, classes]

end Cert.Yolo.Ref

end
-- ==== Proof.PreGood.lean ====
module

public import proofs.«01_k».proof.Proof.PreFacts
public import proofs.«01_k».proof.Proof.Spec
public import Idealize.ShloMosaic.Lib.ReduceAll
public import Idealize.ShloMosaic.Lib.Pointwise

@[expose] public section

/-! What the precondition says of each batch element. -/

set_option maxRecDepth 16384

noncomputable section

namespace Cert.Yolo.Pre

open Idealize.ShloMosaic Cert.Pre_boxes_finite_and_hulls_proper

variable (x0 : FVec Ideal S16x8400x85 .f32) (x1 : FVec Ideal S16x100x85 .f32) (x2 : IVec S16 32)

theorem or_one : ∀ a b : BitVec 1, IntOp.ori a b = 1#1 → a = 1#1 ∨ b = 1#1 := by decide

theorem of_bit (p : Prop) [Decidable p] (h : BitVec.ofBool (decide p) = 1#1) : p := by
  by_contra hp
  rw [decide_eq_false hp] at h
  exact absurd h (by decide)

theorem not_bit : ∀ a : Bool, ~~~ BitVec.ofBool a = 1#1 → a = false := by decide

theorem top_bits : Ideal.ofBits .f32 2139095040#32 = (⊤ : EReal) := by
  simp [Ideal.ofBits, Ideal.ieee]

theorem finite_of {x : EReal} (h : FloatOps.absf (F := Ideal) (φ := .f32) x < (Ideal.ofBits .f32 2139095040#32 : EReal)) : Fin' x := by
  rw [top_bits] at h
  have h' : max x (-x) < (⊤ : EReal) := h
  induction x with
  | bot => simp at h'
  | coe r => exact ⟨r, rfl⟩
  | top => simp at h'

theorem good (h : fn (F := Ideal) x0 x1 x2 = fun _ => 1#1) (b : Fin 16) :
    Good (fun p k => x0 (ix3 b p k)) (fun n k => x1 (ix3 b n k)) (x2 (ix1 b)) := by
  have h0 := congrFun h ix0
  unfold fn fn_part1 fn_part2 fn_part3 fn_part4 at h0
  dsimp only at h0
  obtain ⟨h1, h2⟩ := IntOp.andi_eq_one.1 h0
  obtain ⟨h3, h4⟩ := IntOp.andi_eq_one.1 h1
  have e3 := Host.reduce_andi_all _ _ _ _ _ h3
  have e4 := Host.reduce_andi_all _ _ _ _ _ h4
  have e2 := Host.reduce_andi_all _ _ _ _ _ h2
  clear h0 h1 h2 h3 h4 h
  have f3 := fun b p k => e3 (ix3 b p k)
  have f4 := fun b p k => e4 (ix3 b p k)
  have f2 := fun b p k => e2 (ix3 b p k)
  clear e3 e4 e2
  pointwise [] at f3
  pointwise [] at f4
  pointwise [] at f2
  have off : ∀ n, on (x2 (ix1 b)) n → ¬ (~~~ (IntOp.cmpi CmpIPredicate.slt (BitVec.ofNat 32 n.val) (x2 (ix1 b))) = 1#1) := by
    intro n hn hc
    exact absurd ((not_bit _ hc).symm.trans hn) (by decide)
  refine ⟨?_, ?_, ?_⟩
  · intro p k hk
    obtain ⟨a0, a1, a2, a3, a4⟩ := f3 b p
    obtain ⟨k, hk'⟩ := k
    simp only at hk
    interval_cases k
    · exact finite_of (of_bit _ a0)
    · exact finite_of (of_bit _ a1)
    · exact finite_of (of_bit _ a2)
    · exact finite_of (of_bit _ a3)
    · exact finite_of (of_bit _ a4)
  · intro n k hn hk
    obtain ⟨a0, a1, a2, a3⟩ := f4 b n
    obtain ⟨k, hk'⟩ := k
    simp only at hk
    interval_cases k
    · exact finite_of (of_bit _ ((or_one _ _ a0).resolve_right (off n hn)))
    · exact finite_of (of_bit _ ((or_one _ _ a1).resolve_right (off n hn)))
    · exact finite_of (of_bit _ ((or_one _ _ a2).resolve_right (off n hn)))
    · exact finite_of (of_bit _ ((or_one _ _ a3).resolve_right (off n hn)))
  · intro n p hn
    rcases or_one _ _ ((or_one _ _ (f2 b p n)).resolve_right (off n hn)) with hh | hu
    · exact Or.inl (of_bit _ hh)
    · exact Or.inr (of_bit _ hu)

end Cert.Yolo.Pre

end
-- ==== Proof.Meet.lean ====
module

public import proofs.«01_k».proof.Proof.RefCls
public import proofs.«01_k».proof.Proof.PreGood
public import proofs.«01_k».proof.Proof.KerRun

@[expose] public section

/-! The two programs' results are the same functions of the arguments. -/

noncomputable section

namespace Cert.Yolo.Meet

open Idealize.ShloMosaic Cert.ReferenceIdeal Cert.ReferenceIdeal.Line Cert.Yolo.Ref

variable (V : Valuation τ sig (Elt Ideal))
variable (P : Fin 16 → Fin 8400 → Fin 85 → EReal) (T : Fin 16 → Fin 100 → Fin 85 → EReal) (W : Fin 16 → BitVec 32)

/-- The reference's arguments are these, and they are as the precondition asks. -/
structure Same : Prop where
  p : ∀ b, rP V b = P b
  t : ∀ b, rT V b = T b
  w : ∀ b, rW V b = W b
  good : ∀ b, Good (P b) (T b) (W b)

variable {V P T W}

theorem coord (h : Same V P T W) : (res_main_v91 V : FVec Ideal S_ .f32) = fun _ => coordOf (∑ b, ker0 (P b) (T b) (W b)) :=
  (v91 V).trans (funext fun _ => congrArg coordOf (Finset.sum_congr rfl fun b _ => by rw [h.p, h.t, h.w, (h.good b).eq0]))

theorem obj (h : Same V P T W) : (res_main_v126 V : FVec Ideal S_ .f32) = fun _ => objOf (∑ b, ker1 (P b) (T b) (W b)) :=
  (v126 V).trans (funext fun _ => congrArg objOf (Finset.sum_congr rfl fun b _ => by rw [h.p, h.t, h.w, (h.good b).eq1]))

theorem noobj (h : Same V P T W) : (res_main_v143 V : FVec Ideal S_ .f32) = fun _ => noobjOf (∑ b, ker2 (P b) (T b) (W b)) :=
  (v143 V).trans (funext fun _ => congrArg noobjOf (Finset.sum_congr rfl fun b _ => by rw [h.p, h.t, h.w, (h.good b).eq2]))

theorem cls (h : Same V P T W) : (res_main_v163 V : FVec Ideal S_ .f32) = fun _ => clsOf (∑ b, ker3 (P b) (T b) (W b)) (∑ b, count (W b)) :=
  (v163 V).trans (funext fun _ => congrArg₂ clsOf (Finset.sum_congr rfl fun b _ => by rw [h.p, h.t, h.w, (h.good b).eq3])
    (Finset.sum_congr rfl fun b _ => by rw [h.w]))

theorem add4 (a b c d : FVec Ideal S_ .f32) (x y z u : EReal) (ha : a = fun _ => x) (hb : b = fun _ => y) (hc : c = fun _ => z) (hd : d = fun _ => u) :
    (addf (addf (addf a b) c) d : FVec Ideal S_ .f32) = fun _ => x + y + z + u := by
  subst ha hb hc hd
  rfl

theorem total (h : Same V P T W) :
    (addf (addf (addf (res_main_v91 V : FVec Ideal S_ .f32) (res_main_v126 V)) (res_main_v143 V)) (res_main_v163 V) : FVec Ideal S_ .f32)
      = fun _ => coordOf (∑ b, ker0 (P b) (T b) (W b)) + objOf (∑ b, ker1 (P b) (T b) (W b)) + noobjOf (∑ b, ker2 (P b) (T b) (W b)) + clsOf (∑ b, ker3 (P b) (T b) (W b)) (∑ b, count (W b)) :=
  add4 _ _ _ _ _ _ _ _ (coord h) (obj h) (noobj h) (cls h)

end Cert.Yolo.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.PreFacts
public import proofs.«01_k».proof.Proof.RefRun
public import proofs.«01_k».proof.Proof.KerRun
public import proofs.«01_k».proof.Proof.Meet
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- No window's index map reads the table of box counts, so the launch's side condition on it is trivial. -/
theorem ok_k (m : (ℓ : Loc Cert.Kernel.nD Cert.Kernel.τ Cert.Kernel.sig) → Buf (Elt Bits) ℓ) : Cert.Kernel.Gen.Ok m := trivial

theorem ok_ki (m : (ℓ : Loc Cert.KernelIdeal.nD Cert.KernelIdeal.τ Cert.KernelIdeal.sig) → Buf (Elt Ideal) ℓ) :
    Cert.KernelIdeal.Gen.Ok m := trivial

theorem frame_k : Cert.quiescent_Kernel := fun m ρ _ => Cert.Kernel.Gen.frame m ρ (ok_k m)

theorem frame_ki : Cert.quiescent_KernelIdeal := fun m ρ _ => Cert.KernelIdeal.Gen.frame m ρ (ok_ki m)

/-- The reference declares no semaphore; its run leaves the arguments alone. -/
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Line.run (F := Ideal) m ρ)

/-- The reference's arguments, from a memory that agrees with the kernel's, under the precondition. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_boxes_finite_and_hulls_proper m) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.Yolo.Meet.Same (StableHlo.launchContents m' c) (Cert.Yolo.Run.argP m c) (Cert.Yolo.Run.argT m c) (Cert.Yolo.Run.argW m c) where
  p b := funext fun p => funext fun k => congrFun h.1 (ix3 b p k)
  t b := funext fun n => funext fun k => congrFun h.2.1 (ix3 b n k)
  w b := congrFun h.2.2 (ix1 b)
  good b := Cert.Yolo.Pre.good _ _ _ (hpre c) b

theorem equal : Cert.algebraic_KernelIdeal_ReferenceIdeal_pre_boxes_finite_and_hulls_proper := by
  intro m g m' g' hpre hargs
  refine ⟨_, _, _, _, _, Cert.Yolo.Run.run m g (ok_ki m), ?_⟩
  refine (θ_run Cert.ReferenceIdeal.defs _ _).mono (fun r h c => ?_) (Cert.ReferenceIdeal.Line.run (F := Ideal) m' g')
  have hs := same m m' hpre c (hargs c)
  obtain ⟨h0, h1, h2, h3, h4, h5⟩ := h c
  exact ⟨h0.trans (Cert.Yolo.Meet.total hs), h1.trans (Cert.Yolo.Meet.coord hs), h2.trans (Cert.Yolo.Meet.obj hs),
    h3.trans (Cert.Yolo.Meet.noobj hs), h4.trans (Cert.Yolo.Meet.cls hs), h5⟩

theorem claim : Cert.Claim :=
  ⟨Cert.Kernel.Gen.facts, Cert.KernelIdeal.Gen.facts, Cert.ReferenceIdeal.Gen.facts,
    Cert.Pre_boxes_finite_and_hulls_proper.facts_hold,
    frame_k, frame_ki, fun m ρ _ => frame_ki m ρ trivial, frame_ri, fun m ρ _ => frame_ri m ρ trivial, trivial, equal⟩

end Cert.Proof

end
